-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Words (m : (ℓ : Loc Cert.Words.nD Cert.Words.τ Cert.Words.sig) → Buf (Elt Bits) ℓ) : Prop :=
  True

def Pre_WordsIdeal (m : (ℓ : Loc Cert.WordsIdeal.nD Cert.WordsIdeal.τ Cert.WordsIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Words [hWords : Cert.Words.Facts] : Prop :=
  ∀ (m : (ℓ : Loc Cert.Words.nD Cert.Words.τ Cert.Words.sig) → Buf (Elt Bits) ℓ) (g : Dev Cert.Words.nD → PrngReg), Pre_Words m →
    θ_run (Cert.Words.defs (F := Bits)) (Cert.Words.threads (F := Bits)) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0)
      ∧ r.2.mem ((c.tc : Thread Cert.Words.nD Cert.Words.τ).loc Cert.Words.main_arg1) = m ((c.tc : Thread Cert.Words.nD Cert.Words.τ).loc Cert.Words.main_arg1)
      ∧ r.2.mem ((c.tc : Thread Cert.Words.nD Cert.Words.τ).loc Cert.Words.main_arg2) = m ((c.tc : Thread Cert.Words.nD Cert.Words.τ).loc Cert.Words.main_arg2)
      ∧ r.2.mem ((c.tc : Thread Cert.Words.nD Cert.Words.τ).loc Cert.Words.main_arg3) = m ((c.tc : Thread Cert.Words.nD Cert.Words.τ).loc Cert.Words.main_arg3)
      ∧ r.2.mem ((c.tc : Thread Cert.Words.nD Cert.Words.τ).loc Cert.Words.main_arg4) = m ((c.tc : Thread Cert.Words.nD Cert.Words.τ).loc Cert.Words.main_arg4))
      ∧ r.2.sem = fun _ => 0)

def quiescent_WordsIdeal [hWordsIdeal : Cert.WordsIdeal.Facts] : Prop :=
  ∀ (m : (ℓ : Loc Cert.WordsIdeal.nD Cert.WordsIdeal.τ Cert.WordsIdeal.sig) → Buf (Elt Ideal) ℓ) (g : Dev Cert.WordsIdeal.nD → PrngReg), Pre_WordsIdeal m →
    θ_run (Cert.WordsIdeal.defs (F := Ideal)) (Cert.WordsIdeal.threads (F := Ideal)) ⟨m, fun _ => 0, g⟩ (fun r => (∀ c : Dev Cert.WordsIdeal.nD,
      r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
      ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
      ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
      ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3)
      ∧ r.2.mem ((c.tc : Thread Cert.WordsIdeal.nD Cert.WordsIdeal.τ).loc Cert.WordsIdeal.main_arg4) = m ((c.tc : Thread Cert.WordsIdeal.nD Cert.WordsIdeal.τ).loc Cert.WordsIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Words_WordsIdeal : Prop :=
  True

def algebraic_WordsIdeal_ReferenceIdeal [hWordsIdeal : Cert.WordsIdeal.Facts] [hReferenceIdeal : Cert.ReferenceIdeal.Facts] : Prop :=
  ∀ (m : (ℓ : Loc Cert.WordsIdeal.nD Cert.WordsIdeal.τ Cert.WordsIdeal.sig) → Buf (Elt Ideal) ℓ) (g : Dev Cert.WordsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_WordsIdeal m →
    (∀ c : Dev Cert.WordsIdeal.nD,
      m' ((c.tc : Thread Cert.ReferenceIdeal.nD Cert.ReferenceIdeal.τ).loc Cert.ReferenceIdeal.main_arg0) = m ((c.tc : Thread Cert.WordsIdeal.nD Cert.WordsIdeal.τ).loc Cert.WordsIdeal.main_arg0)
      ∧ m' ((c.tc : Thread Cert.ReferenceIdeal.nD Cert.ReferenceIdeal.τ).loc Cert.ReferenceIdeal.main_arg1) = m ((c.tc : Thread Cert.WordsIdeal.nD Cert.WordsIdeal.τ).loc Cert.WordsIdeal.main_arg1)
      ∧ m' ((c.tc : Thread Cert.ReferenceIdeal.nD Cert.ReferenceIdeal.τ).loc Cert.ReferenceIdeal.main_arg2) = m ((c.tc : Thread Cert.WordsIdeal.nD Cert.WordsIdeal.τ).loc Cert.WordsIdeal.main_arg2)
      ∧ m' ((c.tc : Thread Cert.ReferenceIdeal.nD Cert.ReferenceIdeal.τ).loc Cert.ReferenceIdeal.main_arg3) = m ((c.tc : Thread Cert.WordsIdeal.nD Cert.WordsIdeal.τ).loc Cert.WordsIdeal.main_arg3)
      ∧ m' ((c.tc : Thread Cert.ReferenceIdeal.nD Cert.ReferenceIdeal.τ).loc Cert.ReferenceIdeal.main_arg4) = m ((c.tc : Thread Cert.WordsIdeal.nD Cert.WordsIdeal.τ).loc Cert.WordsIdeal.main_arg4)) →
    ∃ (v0 : (c : Dev Cert.WordsIdeal.nD) → Buf (Elt Ideal) ((c.tc : Thread Cert.WordsIdeal.nD Cert.WordsIdeal.τ).loc Cert.WordsIdeal.main_arg0)) (v1 : (c : Dev Cert.WordsIdeal.nD) → Buf (Elt Ideal) ((c.tc : Thread Cert.WordsIdeal.nD Cert.WordsIdeal.τ).loc Cert.WordsIdeal.main_arg1)) (v2 : (c : Dev Cert.WordsIdeal.nD) → Buf (Elt Ideal) ((c.tc : Thread Cert.WordsIdeal.nD Cert.WordsIdeal.τ).loc Cert.WordsIdeal.main_arg2)) (v3 : (c : Dev Cert.WordsIdeal.nD) → Buf (Elt Ideal) ((c.tc : Thread Cert.WordsIdeal.nD Cert.WordsIdeal.τ).loc Cert.WordsIdeal.main_v14)),
      θ_run (Cert.WordsIdeal.defs (F := Ideal)) (Cert.WordsIdeal.threads (F := Ideal)) ⟨m, fun _ => 0, g⟩ (fun r => ∀ c : Dev Cert.WordsIdeal.nD,
          r.2.mem ((c.tc : Thread Cert.WordsIdeal.nD Cert.WordsIdeal.τ).loc Cert.WordsIdeal.main_arg0) = v0 c
          ∧ r.2.mem ((c.tc : Thread Cert.WordsIdeal.nD Cert.WordsIdeal.τ).loc Cert.WordsIdeal.main_arg1) = v1 c
          ∧ r.2.mem ((c.tc : Thread Cert.WordsIdeal.nD Cert.WordsIdeal.τ).loc Cert.WordsIdeal.main_arg2) = v2 c
          ∧ r.2.mem ((c.tc : Thread Cert.WordsIdeal.nD Cert.WordsIdeal.τ).loc Cert.WordsIdeal.main_v14) = v3 c
          ∧ r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
          ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
          ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
          ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3)
          ∧ r.2.mem ((c.tc : Thread Cert.WordsIdeal.nD Cert.WordsIdeal.τ).loc Cert.WordsIdeal.main_arg4) = m ((c.tc : Thread Cert.WordsIdeal.nD Cert.WordsIdeal.τ).loc Cert.WordsIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hWords : Cert.Words.Facts) (hWordsIdeal : Cert.WordsIdeal.Facts) (hReferenceIdeal : Cert.ReferenceIdeal.Facts),
    quiescent_Kernel (hKernel := hKernel)
    ∧ quiescent_KernelIdeal (hKernelIdeal := hKernelIdeal)
    ∧ quiescent_Words (hWords := hWords)
    ∧ quiescent_WordsIdeal (hWordsIdeal := hWordsIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ preserves_Words_WordsIdeal
    ∧ algebraic_WordsIdeal_ReferenceIdeal (hWordsIdeal := hWordsIdeal) (hReferenceIdeal := hReferenceIdeal)
-- ==== Kernel.lean ====
abbrev S1000000x16 : Shape := ⟨2, ![1000000, 16]⟩
abbrev S1000000 : Shape := ⟨1, ![1000000]⟩
abbrev S_ : Shape := ⟨0, ![]⟩
abbrev S262144 : Shape := ⟨1, ![262144]⟩
abbrev S8192 : Shape := ⟨1, ![8192]⟩
abbrev S1 : Shape := ⟨1, ![1]⟩

abbrev nBuf : Table → Nat
  | .hbm => 17
  | .local .scVector .vmem => 1
  | _ => 0

abbrev bufTy : (tb : Table) → Fin (nBuf tb) → BufTy
  | .hbm, ⟨0, _⟩ => ⟨S1000000x16, .f32⟩
  | .hbm, ⟨1, _⟩ => ⟨S1000000, .f32⟩
  | .hbm, ⟨2, _⟩ => ⟨S1000000, .f32⟩
  | .hbm, ⟨3, _⟩ => ⟨S1000000, .i1⟩
  | .hbm, ⟨4, _⟩ => ⟨S1000000, .i1⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i1⟩
  | .hbm, ⟨13, _⟩ => ⟨S1000000, .i1⟩
  | .hbm, ⟨14, _⟩ => ⟨S1000000, .i1⟩
  | .hbm, ⟨15, _⟩ => ⟨S1000000, .i1⟩
  | .hbm, ⟨16, _⟩ => ⟨S1000000, .i1⟩
  | .local .scVector .vmem, ⟨0, _⟩ => ⟨S8192, .i32⟩
  | _, _ => ⟨S1000000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_c_1 : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v0_scv : Ref sig .scVector := ⟨.hbm, 6, rfl⟩
abbrev main_v1_scv : Ref sig .scVector := ⟨.hbm, 7, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Words.lean ====
abbrev S1000000x16 : Shape := ⟨2, ![1000000, 16]⟩
abbrev S1000000 : Shape := ⟨1, ![1000000]⟩
abbrev S_ : Shape := ⟨0, ![]⟩
abbrev S1048576 : Shape := ⟨1, ![1048576]⟩
abbrev S262144x4 : Shape := ⟨2, ![262144, 4]⟩
abbrev S262144 : Shape := ⟨1, ![262144]⟩
abbrev S8192 : Shape := ⟨1, ![8192]⟩
abbrev S16 : Shape := ⟨1, ![16]⟩

abbrev nBuf : Table → Nat
  | .hbm => 25
  | .local .scVector .vmem => 2
  | _ => 0

abbrev bufTy : (tb : Table) → Fin (nBuf tb) → BufTy
  | .hbm, ⟨0, _⟩ => ⟨S1000000x16, .f32⟩
  | .hbm, ⟨1, _⟩ => ⟨S1000000, .f32⟩
  | .hbm, ⟨2, _⟩ => ⟨S1000000, .f32⟩
  | .hbm, ⟨3, _⟩ => ⟨S1000000, .i1⟩
  | .hbm, ⟨4, _⟩ => ⟨S1000000, .i1⟩
  | .hbm, ⟨5, _⟩ => ⟨S1000000, .i8⟩
  | .hbm, ⟨6, _⟩ => ⟨S_, .i32⟩
  | .hbm, ⟨7, _⟩ => ⟨S_, .i8⟩
  | .hbm, ⟨8, _⟩ => ⟨S1048576, .i8⟩
  | .hbm, ⟨9, _⟩ => ⟨S262144x4, .i8⟩
  | .hbm, ⟨10, _⟩ => ⟨S262144, .i32⟩
  | .hbm, ⟨11, _⟩ => ⟨S1000000, .i8⟩
  | .hbm, ⟨12, _⟩ => ⟨S_, .i32⟩
  | .hbm, ⟨13, _⟩ => ⟨S_, .i8⟩
  | .hbm, ⟨14, _⟩ => ⟨S1048576, .i8⟩
  | .hbm, ⟨15, _⟩ => ⟨S262144x4, .i8⟩
  | .hbm, ⟨16, _⟩ => ⟨S262144, .i32⟩
  | .hbm, ⟨17, _⟩ => ⟨S262144, .i32⟩
  | .hbm, ⟨18, _⟩ => ⟨S262144x4, .i8⟩
  | .hbm, ⟨19, _⟩ => ⟨S1048576, .i8⟩
  | .hbm, ⟨20, _⟩ => ⟨S1000000, .i8⟩
  | .hbm, ⟨21, _⟩ => ⟨S_, .i8⟩
  | .hbm, ⟨22, _⟩ => ⟨S1000000, .i8⟩
  | .hbm, ⟨23, _⟩ => ⟨S1000000, .i1⟩
  | .hbm, ⟨24, _⟩ => ⟨S1000000, .i1⟩
  | .local .scVector .vmem, ⟨0, _⟩ => ⟨S8192, .i32⟩
  | .local .scVector .vmem, ⟨1, _⟩ => ⟨S8192, .i32⟩
  | _, _ => ⟨S1000000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v3_scv : Ref sig .scVector := ⟨.hbm, 10, rfl⟩
abbrev main_v7_scv : Ref sig .scVector := ⟨.hbm, 16, rfl⟩
abbrev main_v8_scv : Ref sig .scVector := ⟨.hbm, 17, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  ![v2.toNat]
@[reducible] def k0_t1_loop : Scf.Loop 32 :=
  let c0_i32_0 : BitVec 32 := 0#32
  let c512_i32 : BitVec 32 := 512#32
  let v3 : BitVec 32 := Scalar.addi c0_i32_0 c512_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg7 : BitVec 32 := Scf.iv c0_i32_0 c1_i32 k0_t1
  let c16_i32 : BitVec 32 := 16#32
  let v4 : BitVec 32 := Scalar.muli arg7 c16_i32
  let v5 : Index := Scalar.indexCast v4
  ![v5.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x16 : Shape := ⟨2, ![1000000, 16]⟩
abbrev S1000000 : Shape := ⟨1, ![1000000]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S1000000, .f32⟩
  | .hbm, ⟨2, _⟩ => ⟨S1000000, .f32⟩
  | .hbm, ⟨3, _⟩ => ⟨S1000000, .i1⟩
  | .hbm, ⟨4, _⟩ => ⟨S1000000, .i1⟩
  | .hbm, ⟨5, _⟩ => ⟨S_, .i1⟩
  | .hbm, ⟨6, _⟩ => ⟨S1000000, .i1⟩
  | .hbm, ⟨7, _⟩ => ⟨S1000000, .i1⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩

abbrev nD : Nat := 1
abbrev τ : Topo := Topo.v7x

variable {F : FTy → Type} [FloatOps F]
-- ==== Proof.Blocks.lean ====
/-
  The blocks that the thirty-two tasks of a call own, of an array of 262144 words, and a fact about writing a block
  through a view. Both versions' calls divide their arrays in the same way.
-/
module

public import Idealize.ShloMosaic.Lib.SparseCore.Quiescent
public import Idealize.ShloMosaic.Lib.Writes
public import Idealize.ShloMosaic.Lib.Tactic

@[expose] public section

namespace Cert.Proof.Blocks

open Idealize.ShloMosaic

/-- The shape of the calls' arrays. -/
abbrev words : Shape := ⟨1, ![262144]⟩

/-- The words that task `(c, s)` owns: 8192 of them from `16384 s + 8192 c` on. -/
def blk (c s : ℕ) : Finset words.Idx :=
  Finset.univ.filter fun y => 16384 * s + 8192 * c ≤ (y 0).val ∧ (y 0).val < 16384 * s + 8192 * c + 8192

/-- Membership in a task's block, by the word's number. -/
theorem mem_blk {c s : ℕ} {y : words.Idx} :
    y ∈ blk c s ↔ 16384 * s + 8192 * c ≤ (y 0).val ∧ (y 0).val < 16384 * s + 8192 * c + 8192 := by
  unfold blk; simp only [Finset.mem_filter, Finset.mem_univ, true_and]

/-- The words of SparseCore `c`: its sixteen tasks' blocks. -/
def half (c : ℕ) : Finset words.Idx := (Finset.univ : Finset (Fin 16)).biUnion fun s => blk c s.val

/-- Two tasks of one SparseCore own disjoint blocks. -/
theorem blk_disjoint (c : ℕ) (hc : c < 2) : ∀ s ∈ (Finset.univ : Finset (Fin 16)), ∀ t ∈ (Finset.univ : Finset (Fin 16)), s ≠ t →
    Disjoint (blk c s.val) (blk c t.val) := by
  intro s _ t _ h
  rw [Finset.disjoint_left]
  intro y hs ht
  rw [mem_blk] at hs ht
  exact h (Fin.ext (by omega))

/-- The two SparseCores own disjoint halves. -/
theorem half_disjoint : ∀ c ∈ (Finset.univ : Finset (Fin 2)), ∀ c' ∈ (Finset.univ : Finset (Fin 2)), c ≠ c' →
    Disjoint (half c.val) (half c'.val) := by
  intro c _ c' _ h
  rw [Finset.disjoint_left]
  intro y hs ht
  unfold half at hs ht
  rw [Finset.mem_biUnion] at hs ht
  obtain ⟨s, -, hs⟩ := hs
  obtain ⟨t, -, ht⟩ := ht
  rw [mem_blk] at hs ht
  exact h (Fin.ext (by omega))

/-- Every word lies in one of the two halves. -/
theorem half_cover : (Finset.univ : Finset (Fin 2)).biUnion (fun c => half c.val) = Finset.univ := by
  refine Finset.eq_univ_iff_forall.mpr fun y => ?_
  have hy : (y 0).val < 262144 := (y 0).isLt
  refine Finset.mem_biUnion.mpr ⟨⟨(y 0).val / 8192 % 2, by omega⟩, Finset.mem_univ _, ?_⟩
  refine Finset.mem_biUnion.mpr ⟨⟨(y 0).val / 16384, by omega⟩, Finset.mem_univ _, ?_⟩
  rw [mem_blk]
  show 16384 * ((y 0).val / 16384) + 8192 * ((y 0).val / 8192 % 2) ≤ (y 0).val
    ∧ (y 0).val < 16384 * ((y 0).val / 16384) + 8192 * ((y 0).val / 8192 % 2) + 8192
  omega

/-- Writing through a whole view what the view reads off `g` leaves `g` on the elements of the view. -/
theorem writes_read {sig : RefSig} {κ : Kind} {sp : Space} {s : Shape} {e : EltTy} {Val : EltTy → Type} (v : View sig κ sp s e)
    (f g : v.ty.Contents Val) (w : s.Idx → Val e) (hw : ∀ z, w z = v.read Val g z) :
    ∀ y ∈ v.set, v.writes Val f [⟨Rect.whole s, w⟩] y = g y := by
  intro y hy
  obtain ⟨z, -, rfl⟩ := Finset.mem_map.mp hy
  have h := (congrFun (View.read_writes_whole (Val := Val) v f w) z).trans (hw z)
  unfold View.read at h
  exact (cast_inj _).mp h

end Cert.Proof.Blocks
-- ==== Proof.ProbeTileIdeal.lean ====
/-
  The vector-subcore task of `Cert.KernelIdeal`'s SparseCore call, with values.

  The call runs 2 × 16 tasks. Task `(c, s)` owns the block of 8192 words at `16384 s + 8192 c` of both arrays of
  262144 words: it copies its block of the input into its tile memory, waits, copies the tile memory out to its block
  of the output, and waits. This file proves that from the input's block at contents `x` the task ends with the
  output's block at `x` too, the input untouched, every semaphore back at zero.
-/
module

public import proofs.«01_k».proof.Defs
public import proofs.«01_k».proof.Proof.Blocks
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.KernelIdeal.Probe

open Cert.KernelIdeal Cert.KernelIdeal.Gen
open Cert.Proof.Blocks

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels, its configuration, its body table and the variants that its proof runs with. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The configuration's own conditions: its four handshake semaphores are distinct and no kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

-- the kernel's memrefs, as the body table passes them
local notation "xV" => (Memref.whole Cert.KernelIdeal.main_v0_scv : Memref Cert.KernelIdeal.sig Kind.scVector Space.hbm Cert.KernelIdeal.S262144 EltTy.i32)
local notation "oV" => (Memref.whole Cert.KernelIdeal.main_v1_scv : Memref Cert.KernelIdeal.sig Kind.scVector Space.hbm Cert.KernelIdeal.S262144 EltTy.i32)
local notation "sV" => (Memref.whole Cert.KernelIdeal.cc0_scratch0 : Memref Cert.KernelIdeal.sig Kind.scVector Space.vmem Cert.KernelIdeal.S8192 EltTy.i32)

/-- The call's input and output arrays. -/
abbrev xLoc (d : Dev nD) : Loc nD τ sig := (SparseCore.T d).loc main_v0
abbrev oLoc (d : Dev nD) : Loc nD τ sig := (SparseCore.T d).loc main_v1

/-- The words `I` of the input, and of the output, at contents `f` of the whole array. -/
abbrev xBlk (d : Dev nD) (I : Finset S262144.Idx) (f : S262144.Idx → BitVec 32) : sProp 𝕄 := xLoc d ↦[I]{fullShare} (f : Buf (Elt F) (xLoc d))
abbrev oBlk (d : Dev nD) (I : Finset S262144.Idx) (f : S262144.Idx → BitVec 32) : sProp 𝕄 := oLoc d ↦[I]{fullShare} (f : Buf (Elt F) (oLoc d))

/-! ## The task -/

section Tile

variable [FloatOps F]
variable (d : Dev nD) (L : grid0.Coords)

/-- The task's SparseCore and subcore. -/
abbrev cV (L : grid0.Coords) : Fin τ.nSC := (L 0).castLE hcore0
abbrev jV (L : grid0.Coords) : Fin τ.nSub := (L 1).castLE hsub0

/-- The block that the body addresses, as it spells it. -/
abbrev blkK (L : grid0.Coords) : Rect S262144 := Rect.unit (s := S262144) (k0_off1 L) S8192.size (k0_off1_inb L)
abbrev xBlkK (L : grid0.Coords) : Memref sig .scVector .hbm S8192 .i32 := (xV).slice (blkK L) (fun _ => rfl)
abbrev oBlkK (L : grid0.Coords) : Memref sig .scVector .hbm S8192 .i32 := (oV).slice (blkK L) (fun _ => rfl)

omit [FloatOps F] in
/-- The rectangle that the body addresses holds the task's block. -/
theorem blkK_set : (blkK L).set = blk (L 0).val (L 1).val := by
  ext y
  rw [Rect.mem_set_unit, mem_blk, k0_off1_eq]
  constructor
  · intro h; exact h 0
  · intro h a
    match a with
    | 0 => exact h

omit [FloatOps F] in
/-- The input's slice covers the task's block. -/
theorem set_xBlkK : (xBlkK L).view.set = blk (L 0).val (L 1).val := by
  rw [← blkK_set]
  show ((View.whole (main_v0_scv : Ref sig .scVector)).slice (blkK L)).set = _
  rw [View.set_slice]; exact Finset.map_refl
omit [FloatOps F] in
/-- The output's slice covers the task's block. -/
theorem set_oBlkK : (oBlkK L).view.set = blk (L 0).val (L 1).val := by
  rw [← blkK_set]
  show ((View.whole (main_v1_scv : Ref sig .scVector)).slice (blkK L)).set = _
  rw [View.set_slice]; exact Finset.map_refl

omit [FloatOps F] in
/-- Holding the input's slice as the body addresses it is holding the task's block of the input. -/
theorem pts_xBlkK (f : Buf (Elt F) (xLoc d)) :
    ((xBlkK L).view.loc (V d (cV L) (jV L)) ↦[(xBlkK L).view.set]{fullShare} f : sProp 𝕄) = xLoc d ↦[blk (L 0).val (L 1).val]{fullShare} f := by
  rw [set_xBlkK]
omit [FloatOps F] in
/-- Holding the output's slice as the body addresses it is holding the task's block of the output. -/
theorem pts_oBlkK (f : Buf (Elt F) (oLoc d)) :
    ((oBlkK L).view.loc (V d (cV L) (jV L)) ↦[(oBlkK L).view.set]{fullShare} f : sProp 𝕄) = oLoc d ↦[blk (L 0).val (L 1).val]{fullShare} f := by
  rw [set_oBlkK]
omit [FloatOps F] in
/-- Holding the tile memory as the body addresses it is holding its buffer. -/
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl

/-- The two DMA semaphores that the body waits on. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
/-- The subcore's own semaphores at zero: the ones that the body waits on, together with the rest. -/
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
/-- The subcore's own buffers: the tile memory at some contents, together with the rest. -/
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
/-- A whole write of a block through the output's slice, its payload the block of `x`, leaves the output's block at `x`. -/
theorem out_pts (x fo : S262144.Idx → BitVec 32) (w : S8192.Idx → BitVec 32) (hw : ∀ z, w z = (oBlkK L).view.read (Elt F) x z) :
    ((oBlkK L).view.loc (V d (cV L) (jV L)) ↦[(oBlkK L).view.set]{fullShare}
        (oBlkK L).view.writes (Elt F) (fo : (oBlkK L).view.ty.Contents (Elt F)) [⟨Rect.whole S8192, w⟩] : sProp 𝕄)
      ⊢ oBlk (F := F) d (blk (L 0).val (L 1).val) x := by
  rw [pointsTo_congr (writes_read (Val := Elt F) (oBlkK L).view fo x w hw)]
  exact Entails.of_eq (pts_oBlkK (F := F) d L x)

/-- The task, from its blocks of the input at `x` and of the output at anything, to both at `x`. -/
theorem tile_body (hF : (K (F := F)).Facts) (x : S262144.Idx → BitVec 32) (O : CellTallies nD τ sig (HIx 1)) (W : Waits sig (HIx 1)) (hO : ∀ g, O g none = 0) :
    iprop(levAts (K (F := F)).L (K (F := F)).lev ∗ emp
        ∗ (xBlk (F := F) d (blk (L 0).val (L 1).val) x ∗ ∃ f, oBlk (F := F) d (blk (L 0).val (L 1).val) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) oV (Memref.isWhole_whole _) sV (Memref.isWhole_whole _) cc0_scoped0 cc0_scoped1)
          fun _ => iprop((xBlk (F := F) d (blk (L 0).val (L 1).val) x ∗ oBlk (F := F) d (blk (L 0).val (L 1).val) x)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, %fo, Ho⟩, ⟨⟨%fs, Hs⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xBlkK (F := F) d L _).symm) $$ Hx
  ihave Ho' := (Entails.of_eq (pts_oBlkK (F := F) d L _).symm) $$ Ho
  ihave Hs' := (Entails.of_eq (pts_sV (F := F) d L _).symm) $$ Hs
  sl_unfold [cc0_body]
  sl_exec (disch := exact View.amount_pos _ _ (show 0 < S8192.numel by decide))
  sl_step
  -- the write-out's payload is the tile memory, which the fetch filled with the input's block
  have hw : ∀ z, tile_body.sl.dma0_1 d L x fs z = (oBlkK L).view.read (Elt F) x z := by
    intro z
    sl_unfold_run_names
    exact congrFun (View.read_write_univ (v := (sV).view) fs _) z
  isplitl [Hx' Ho']
  · isplitl [Hx']; · iapply (Entails.of_eq (pts_xBlkK (F := F) d L _)); iexact Hx'
    iapply (out_pts (F := F) d L x fo _ hw); iexact Ho'
  isplitl [Hs' Hbufs]
  · isplitl [Hs']; · iexists _; iexact Hs'
    iexact Hbufs
  isplitl [HsemA HsemB Hsems]
  · isplitl [HsemA]; · iexact HsemA
    isplitl [HsemB]; · iexact HsemB
    iexact Hsems
  iexists _; isplitr
  swap; · iexact HO
  -- every recorded wait of the one call is at index `none` or `some 0`
  ipureintro; intro p _
  rcases p.2 with _ | q
  · exact .inr (.inl rfl)
  · exact .inr (.inr (congrArg some (Subsingleton.elim q 0)))

end Tile

end Cert.KernelIdeal.Probe

end
-- ==== Proof.ProbeRunIdeal.lean ====
/-
  The run of `Cert.KernelIdeal`, with values.

  `@main` is a line of host operations, the SparseCore call, and a second line. The call copies its input array, block
  by block over the thirty-two tasks of `ProbeTileIdeal`, so after it the output array is the input array. This file launches
  the call and states where a run of the program ends: every buffer of `@main` at the contents that the two lines, with
  that copy between them, leave there, and every semaphore at zero.
-/
module

public import proofs.«01_k».proof.Proof.ProbeTileIdeal
public import Idealize.ShloMosaic.Lib.Pipeline.Frame

@[expose] public section

noncomputable section

namespace Cert.KernelIdeal.Probe

open Cert.KernelIdeal Cert.KernelIdeal.Gen
open Cert.Proof.Blocks

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S262144 EltTy.i32)
local notation "oV" => (Memref.whole Cert.KernelIdeal.main_v1_scv : Memref Cert.KernelIdeal.sig Kind.scVector Space.hbm Cert.KernelIdeal.S262144 EltTy.i32)
local notation "sV" => (Memref.whole Cert.KernelIdeal.cc0_scratch0 : Memref Cert.KernelIdeal.sig Kind.scVector Space.vmem Cert.KernelIdeal.S8192 EltTy.i32)

/-! ## `@main`'s two lines of host operations -/

/-- The operations before the call. -/
abbrev opsA : List (HloOp τ sig (Elt F)) :=
  [ StableHlo.nullary main_c (constantI S_ 32 0#32),
    StableHlo.unary main_c main_v0 (broadcastInDim S262144 ![] bcast_S_S262144 : (⟨S_, .i32⟩ : BufTy).Contents (Elt F) → (⟨S262144, .i32⟩ : BufTy).Contents (Elt F)) ]

/-- The operations after it. -/
abbrev opsB : List (HloOp τ sig (Elt F)) :=
  [ StableHlo.unary main_v1 main_v2 ((extractStridedSlice S1 ![0] · slices_S262144_S1_0) : (⟨S262144, .i32⟩ : BufTy).Contents (Elt F) → (⟨S1, .i32⟩ : BufTy).Contents (Elt F)),
    StableHlo.reshape main_v2 main_v3 (rfl : (.i32 : EltTy) = .i32) shapeCasts_S1_S_,
    StableHlo.nullary main_c_0 (constantI S_ 32 0#32),
    StableHlo.binary main_v3 main_c_0 main_v4 (cmpi .ne : (⟨S_, .i32⟩ : BufTy).Contents (Elt F) → (⟨S_, .i32⟩ : BufTy).Contents (Elt F) → (⟨S_, .i1⟩ : BufTy).Contents (Elt F)),
    StableHlo.nullary main_c_1 (constantI S_ 1 0#1),
    StableHlo.unary main_c_1 main_call0_v0 (broadcastInDim S1000000 ![] bcast_S_S1000000 : (⟨S_, .i1⟩ : BufTy).Contents (Elt F) → (⟨S1000000, .i1⟩ : BufTy).Contents (Elt F)),
    StableHlo.ternary main_arg4 main_call0_v0 main_arg3 main_v5 (select : (⟨S1000000, .i1⟩ : BufTy).Contents (Elt F) → (⟨S1000000, .i1⟩ : BufTy).Contents (Elt F) → (⟨S1000000, .i1⟩ : BufTy).Contents (Elt F) → (⟨S1000000, .i1⟩ : BufTy).Contents (Elt F)),
    StableHlo.unary main_v4 main_v6 (broadcastInDim S1000000 ![] bcast_S_S1000000 : (⟨S_, .i1⟩ : BufTy).Contents (Elt F) → (⟨S1000000, .i1⟩ : BufTy).Contents (Elt F)),
    StableHlo.binary main_v5 main_v6 main_v7 (ori : (⟨S1000000, .i1⟩ : BufTy).Contents (Elt F) → (⟨S1000000, .i1⟩ : BufTy).Contents (Elt F) → (⟨S1000000, .i1⟩ : BufTy).Contents (Elt F)) ]

/-- `@main` is the first line, the call, the second line. -/
theorem main_eq (d : Dev nD) :
    main (F := F) d = (StableHlo.seq opsA >>= fun _ => (sc (F := F)).run d 0 >>= fun _ => StableHlo.seq opsB >>= fun _ => pure ⟨⟩) := rfl

/-- The first line touches `@main`'s buffers alone. -/
theorem opsA_sub : ∀ op ∈ (opsA : List (HloOp τ sig (Elt F))), op.bufs ⊆ Pipeline.ucRefs τ sig := by
  intro op h
  refine Pipeline.sub_ucRefs op ?_
  revert op
  simp only [opsA, List.mem_cons, List.not_mem_nil, or_false, forall_eq_or_imp, forall_eq]
  refine ⟨?_, ?_⟩ <;> simp

/-- The second line touches `@main`'s buffers alone. -/
theorem opsB_sub : ∀ op ∈ (opsB : List (HloOp τ sig (Elt F))), op.bufs ⊆ Pipeline.ucRefs τ sig := by
  intro op h
  refine Pipeline.sub_ucRefs op ?_
  revert op
  simp only [opsB, List.mem_cons, List.not_mem_nil, or_false, forall_eq_or_imp, forall_eq]
  refine ⟨?_, ?_, ?_, ?_, ?_, ?_, ?_, ?_, ?_⟩ <;> simp

/-- The first line allocates nothing. -/
theorem opsA_fresh : ∀ op ∈ (opsA : List (HloOp τ sig (Elt F))), op.fresh = ∅ := by
  simp only [opsA, List.mem_cons, List.not_mem_nil, or_false, forall_eq_or_imp, forall_eq]
  refine ⟨?_, ?_⟩ <;> rfl

/-- The second line allocates nothing. -/
theorem opsB_fresh : ∀ op ∈ (opsB : List (HloOp τ sig (Elt F))), op.fresh = ∅ := by
  simp only [opsB, List.mem_cons, List.not_mem_nil, or_false, forall_eq_or_imp, forall_eq]
  refine ⟨?_, ?_, ?_, ?_, ?_, ?_, ?_, ?_, ?_⟩ <;> rfl

/-! ## What the program's buffers hold -/

section Launch

variable (m : (ℓ : Loc nD τ sig) → Buf (Elt F) ℓ) (ρ : Dev nD → PrngReg)

/-- The buffers after the first line. -/
def Vpre (d : Dev nD) : Valuation τ sig (Elt F) := StableHlo.after opsA fun b => m (d, b)

/-- The call's input array. -/
def inp (d : Dev nD) : S262144.Idx → BitVec 32 := Vpre m d (Proc.devRef (τ := τ) .tc main_v0)

/-- The call's output array, before the call. -/
def out₀ (d : Dev nD) : S262144.Idx → BitVec 32 := Vpre m d (Proc.devRef (τ := τ) .tc main_v1)

/-- The buffers after the call: its output array at its input's contents. -/
def Vmid (d : Dev nD) : Valuation τ sig (Elt F) :=
  Function.update (Vpre m d) (Proc.devRef (τ := τ) .tc main_v1) (inp m d)

/-- The buffers after the second line. -/
def Vfin (d : Dev nD) : Valuation τ sig (Elt F) := StableHlo.after opsB (Vmid m d)

/-! ## The launch's record -/

/-- One task's pieces before its body, and after it. -/
abbrev piece₀ (d : Dev nD) (c s : ℕ) : sProp 𝕄 := iprop(xBlk (F := F) d (blk c s) (inp m d) ∗ ∃ f, oBlk (F := F) d (blk c s) f)
abbrev piece₁ (d : Dev nD) (c s : ℕ) : sProp 𝕄 := iprop(xBlk (F := F) d (blk c s) (inp m d) ∗ oBlk (F := F) d (blk c s) (inp m d))

/-- The call takes each SparseCore its sixteen tasks' blocks and each task its own, and brings them back with the
    output's blocks at the input's contents. -/
def P : (K (F := F)).Pay (nD := nD) (Val := Elt F) (Name := ℕ) (U := UU) where
  st := fun q d c => match q with | 0 => bigSep Finset.univ fun i : Fin 16 => piece₀ m d c.val i.val
  dn := fun q d c => match q with | 0 => bigSep Finset.univ fun i : Fin 16 => piece₁ m d c.val i.val
  go := fun q d c i => match q with | 0 => piece₀ m d c.val i.val
  td := fun q d c i => match q with | 0 => piece₁ m d c.val i.val
  x := fun _ _ => iprop(emp)

/-- Each piece can be handed over in a handshake. -/
instance P_storable : (P (F := F) m).IsStorable where
  st q d c := match q with
    | 0 => (inferInstance : BI.Storable (upEmb : UEmb _ 𝕄) (bigSep Finset.univ fun i : Fin 16 => piece₀ m d c.val i.val))
  dn q d c := match q with
    | 0 => (inferInstance : BI.Storable (upEmb : UEmb _ 𝕄) (bigSep Finset.univ fun i : Fin 16 => piece₁ m d c.val i.val))
  go q d c i := match q with
    | 0 => (inferInstance : BI.Storable (upEmb : UEmb _ 𝕄) (piece₀ m d c.val i.val))
  td q d c i := match q with
    | 0 => (inferInstance : BI.Storable (upEmb : UEmb _ 𝕄) (piece₁ m d c.val i.val))

/-! ## The tasks' obligation -/

/-- The grid's coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the body at the subcore's coordinates. -/
theorem defs₀_vector (c : Fin τ.nSC) (s : Fin τ.nSub) :
    defs₀ (F := F) (.scVector c s) 0 ()
      = SparseCore.onTile hcore0 hsub0 (fun c s => cc0_body (coordsV c s)
          xV (Memref.isWhole_whole _) oV (Memref.isWhole_whole _) sV (Memref.isWhole_whole _) cc0_scoped0 cc0_scoped1) ⟨⟩ c s := rfl

/-- Every task takes its pieces before to its pieces after. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (inp m d) O W hO

/-! ## The blocks split and join -/

/-- The input array is its thirty-two blocks. -/
theorem x_blocks (d : Dev nD) (f : S262144.Idx → BitVec 32) :
    xBlk (F := F) d Finset.univ f = bigSep Finset.univ fun c : Fin 2 => bigSep Finset.univ fun i : Fin 16 => xBlk (F := F) d (blk c.val i.val) f := by
  unfold xBlk
  rw [← half_cover, pointsTo_biUnion Finset.univ (ℓ := xLoc d) (fun c : Fin 2 => half c.val) half_disjoint]
  refine bigSep_congr fun c _ => ?_
  unfold half
  exact pointsTo_biUnion Finset.univ (ℓ := xLoc d) (fun s : Fin 16 => blk c.val s.val) (blk_disjoint c.val c.isLt)

/-- The output array is its thirty-two blocks. -/
theorem o_blocks (d : Dev nD) (f : S262144.Idx → BitVec 32) :
    oBlk (F := F) d Finset.univ f = bigSep Finset.univ fun c : Fin 2 => bigSep Finset.univ fun i : Fin 16 => oBlk (F := F) d (blk c.val i.val) f := by
  unfold oBlk
  rw [← half_cover, pointsTo_biUnion Finset.univ (ℓ := oLoc d) (fun c : Fin 2 => half c.val) half_disjoint]
  refine bigSep_congr fun c _ => ?_
  unfold half
  exact pointsTo_biUnion Finset.univ (ℓ := oLoc d) (fun s : Fin 16 => blk c.val s.val) (blk_disjoint c.val c.isLt)

/-- A SparseCore's pieces are its tasks' pieces, before and after. -/
theorem vecSplit : (K (F := F)).VecSplit' (P m) 0 := by
  intro d c
  show (bigSep Finset.univ fun i : Fin 16 => piece₀ m d c.val i.val) ⊢ |={Set.univ}=> iprop(
      (bigSep Finset.univ fun i : Fin 16 => piece₀ m d c.val i.val)
      ∗ ((bigSep Finset.univ fun i : Fin 16 => piece₁ m d c.val i.val) -∗ (bigSep Finset.univ fun i : Fin 16 => piece₁ m d c.val i.val)))
  iintro H; imodintro
  isplitl [H]; · iexact H
  iintro H; iexact H

/-- Both arrays whole give the call what it takes. -/
theorem st0_intro (d : Dev nD) (f : S262144.Idx → BitVec 32) :
    iprop(xBlk (F := F) d Finset.univ (inp m d) ∗ oBlk (F := F) d Finset.univ f)
      ⊢ bigSep Finset.univ fun c : Fin ((K (F := F)).nCore 0) => (P m).st 0 d c := by
  show _ ⊢ bigSep Finset.univ fun c : Fin 2 => bigSep Finset.univ fun i : Fin 16 => piece₀ m d c.val i.val
  rw [x_blocks, o_blocks, ← bigSep_sep']
  refine bigSep_mono fun c _ => ?_
  rw [← bigSep_sep']
  refine bigSep_mono fun i _ => ?_
  show iprop(xBlk (F := F) d (blk c.val i.val) (inp m d) ∗ oBlk (F := F) d (blk c.val i.val) f) ⊢ piece₀ m d c.val i.val
  iintro ⟨Hx, Ho⟩
  isplitl [Hx]; · iexact Hx
  iexists f; iexact Ho

/-- What the call brings back is both arrays whole, at the input's contents. -/
theorem dn0_elim (d : Dev nD) :
    (bigSep Finset.univ fun c : Fin ((K (F := F)).nCore 0) => (P m).dn 0 d c)
      ⊢ iprop(xBlk (F := F) d Finset.univ (inp m d) ∗ oBlk (F := F) d Finset.univ (inp m d)) := by
  show (bigSep Finset.univ fun c : Fin 2 => bigSep Finset.univ fun i : Fin 16 => piece₁ m d c.val i.val) ⊢ _
  rw [x_blocks, o_blocks, ← bigSep_sep']
  refine bigSep_mono fun c _ => ?_
  rw [← bigSep_sep']
  exact fun _ h => h

/-! ## The launch's element -/

/-- The element that the launch starts from. -/
def u₀ : UU := (initOf (K (F := F)).hsCells (K (F := F)).hsToks, 1)

omit [FloatOps F] in
/-- Nothing, once per index, is nothing. -/
theorem bigSep_emp' {I : Type} (s : Finset I) : (bigSep s fun _ => iprop(emp)) = (iprop(emp) : sProp 𝕄) := bigSep_emp_const s

/-- The launch's element gives the handshakes' start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

/-- The call's two arrays. -/
abbrev callRefs : Finset (DevRef τ sig) := {Proc.devRef (τ := τ) .tc main_v0, Proc.devRef (τ := τ) .tc main_v1}

/-- A buffer of the TensorCore that no scope allocates is among `@main`'s. -/
theorem ref_mem (b : Ref sig .tc) (h : (Proc.devRef (τ := τ) .tc b).isScoped = false) : Proc.devRef (τ := τ) .tc b ∈ Pipeline.ucRefs τ sig :=
  Finset.mem_filter.mpr ⟨StableHlo.devRef_mem_tcRefs b, by rw [h]; exact Bool.false_ne_true⟩

/-- The call's arrays are among `@main`'s buffers. -/
theorem callRefs_sub : callRefs ⊆ Pipeline.ucRefs τ sig :=
  Finset.insert_subset (ref_mem main_v0 rfl) (Finset.singleton_subset_iff.mpr (ref_mem main_v1 rfl))

/-- The call's two arrays, held at a valuation, are their two points-to's. -/
theorem held_callRefs (d : Dev nD) (W : Valuation τ sig (Elt F)) :
    (StableHlo.held (d.tc : Thread nD τ) callRefs W : sProp 𝕄)
      = iprop(xBlk (F := F) d Finset.univ (W (Proc.devRef .tc main_v0)) ∗ oBlk (F := F) d Finset.univ (W (Proc.devRef .tc main_v1))) := by
  unfold StableHlo.held callRefs
  rw [SparseCore.bigSep_insert' (by decide), bigSep_singleton]

/-- Everything of `@main`'s, at the contents a run leaves. -/
abbrev FIN (d : Dev nD) : sProp 𝕄 := StableHlo.held (d.tc : Thread nD τ) (Pipeline.ucRefs τ sig) (Vfin m d)

/-- The call's arrays come out of what `@main` holds after the first line, -/
theorem split_pre (d : Dev nD) :
    (StableHlo.held (d.tc : Thread nD τ) (Pipeline.ucRefs τ sig) (StableHlo.after opsA fun b => m (d, b)) : sProp 𝕄)
      = iprop((xBlk (F := F) d Finset.univ (inp m d) ∗ oBlk (F := F) d Finset.univ (out₀ m d))
          ∗ StableHlo.held (d.tc : Thread nD τ) (Pipeline.ucRefs τ sig \ callRefs) (Vpre m d)) := by
  rw [StableHlo.held_sub_split _ callRefs_sub, held_callRefs]; rfl

/-- and go back in with the output at the input's contents. -/
theorem split_mid (d : Dev nD) :
    (StableHlo.held (d.tc : Thread nD τ) (Pipeline.ucRefs τ sig) (Vmid m d) : sProp 𝕄)
      = iprop((xBlk (F := F) d Finset.univ (inp m d) ∗ oBlk (F := F) d Finset.univ (inp m d))
          ∗ StableHlo.held (d.tc : Thread nD τ) (Pipeline.ucRefs τ sig \ callRefs) (Vpre m d)) := by
  rw [StableHlo.held_sub_split _ callRefs_sub, held_callRefs]
  have h0 : Vmid m d (Proc.devRef (τ := τ) .tc main_v0) = inp m d := Function.update_of_ne (by decide) _ _
  have h1 : Vmid m d (Proc.devRef (τ := τ) .tc main_v1) = inp m d := Function.update_self ..
  rw [h0, h1, StableHlo.held_congr (V := Vmid m d) (V' := Vpre m d) _ fun b hb => Function.update_of_ne (fun h => ?_) _ _]
  subst h
  exact (Finset.mem_sdiff.mp hb).2 (Finset.mem_insert_of_mem (Finset.mem_singleton_self _))

/-- The launch's buffers, as what `@main` holds. -/
theorem launch_held (d : Dev nD) :
    (unscopedBufs d (fun b => m ((SparseCore.T d).loc b)) : sProp 𝕄) = StableHlo.held (SparseCore.T d) (Pipeline.ucRefs τ sig) (fun b => m (d, b)) :=
  Pipeline.unscopedBufs_held (Ix := HIx 1) (Name := ℕ) (U := UU) (Lvl := ℕ) d (fun b => m (d, b))

set_option backward.isDefEq.respectTransparency.types false in
/-- `@main` on device `d`'s TensorCore: from the launch's buffers to `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hbufs, Hts, -⟩, -⟩
  iapply (StableHlo.wp_seq 𝒱 none Set.univ d (Pipeline.ucRefs τ sig) _ opsA opsA_sub opsA_fresh (fun b => m (d, b))) $$ [Hb Hbufs]
  · isplitl [Hb] <;> iassumption
  iintro ⟨Hb, Hbufs⟩
  ihave Hbufs := (Entails.of_eq (split_pre m d)) $$ Hbufs
  icases Hbufs with ⟨Hxo, Hrest⟩
  rw [wp_bind]
  iapply ((K (F := F)).wp_run (D (F := F)) 𝒱 (EH := EH) (P := P m) κ d 0) $$ [Hst Hxo Hb Hts Hrest]
  isplitr; · iexact Hctx
  isplitl [Hst]; · iexact Hst
  isplitl [Hxo]; · iapply (st0_intro m d (out₀ m d)); iexact Hxo
  iintro ⟨Hst, Hdn⟩
  ihave Hxo := (dn0_elim m d) $$ Hdn
  ihave Hbufs := (Entails.of_eq (split_mid m d).symm) $$ [Hxo Hrest]
  · isplitl [Hxo] <;> iassumption
  iapply (StableHlo.wp_seq 𝒱 none Set.univ d (Pipeline.ucRefs τ sig) _ opsB opsB_sub opsB_fresh (Vmid m d)) $$ [Hb Hbufs]
  · isplitl [Hb] <;> iassumption
  iintro ⟨Hb, Hbufs⟩
  rw [wp_pure]
  imodintro
  isplitl [Hst]; · iexact Hst
  isplitl [Hbufs]; · iexact Hbufs
  isplitl [Hb] <;> iassumption

/-! ## The run -/

/-- Every buffer of `@main`'s is at its final contents. -/
def fq (d : Dev nD) (s' : Phys nD τ sig (Elt F)) : Prop := ∀ b ∈ Pipeline.ucRefs τ sig, s'.mem.mem (d, b) = Vfin m d b

/-- One buffer of those held, read in the state. -/
theorem held_read (d : Dev nD) (s' : Phys nD τ sig (Elt F)) (b : DevRef τ sig) (hb : b ∈ Pipeline.ucRefs τ sig) :
    iprop(FIN m d ∗ SI s') ⊢ (⌜s'.mem.mem (d, b) = Vfin m d b⌝ : sProp 𝕄) := by
  have hx : FIN m d ⊢ (((d, b) : Loc nD τ sig) ↦{fullShare} Vfin m d b : sProp 𝕄) := bigSep_elim hb
  iintro ⟨H, HSI⟩
  ihave Hx := hx $$ H
  ihave H := (SI_pointsTo_agree (st := s') (ℓ := ((d, b) : Loc nD τ sig)) (I := Finset.univ) (q := fullShare) (f := Vfin m d b)) $$ [HSI Hx]
  · isplitl [HSI] <;> iassumption
  icases H with %h
  ipureintro; exact funext fun i => h i (Finset.mem_univ i)

/-- What `@main` holds at the end, read in the state. -/
theorem hfin (d : Dev nD) (s' : Phys nD τ sig (Elt F)) : iprop(FIN m d ∗ SI s') ⊢ (⌜fq m d s'⌝ : sProp 𝕄) :=
  fun x hx b hb => held_read m d s' b hb x hx

/-- Where a run ends: `@main`'s buffers at their final contents and every semaphore at zero. -/
def QC : PUnit × MemSt nD τ sig (Elt F) → Prop := fun r => (∀ c : Dev nD, ∀ b ∈ Pipeline.ucRefs τ sig, r.2.mem (c, b) = Vfin m c b) ∧ r.2.sem = fun _ => 0

/-- Every run of the program ends with `@main`'s buffers at `Vfin` and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The arguments and the results at the end -/

/-- The call's input is all zeros. -/
theorem inp_zero (d : Dev nD) : inp m d = fun _ => 0#32 := by
  unfold inp Vpre
  after_results
  rfl

/-- Argument 0 is unchanged. -/
theorem Vfin_arg0 (d : Dev nD) : Vfin m d (Proc.devRef (τ := τ) .tc main_arg0) = m (d, Proc.devRef .tc main_arg0) := by
  unfold Vfin Vmid Vpre; after_results_simp; rfl
/-- Argument 1 is unchanged. -/
theorem Vfin_arg1 (d : Dev nD) : Vfin m d (Proc.devRef (τ := τ) .tc main_arg1) = m (d, Proc.devRef .tc main_arg1) := by
  unfold Vfin Vmid Vpre; after_results_simp; rfl
/-- Argument 2 is unchanged. -/
theorem Vfin_arg2 (d : Dev nD) : Vfin m d (Proc.devRef (τ := τ) .tc main_arg2) = m (d, Proc.devRef .tc main_arg2) := by
  unfold Vfin Vmid Vpre; after_results_simp; rfl
/-- Argument 3 is unchanged. -/
theorem Vfin_arg3 (d : Dev nD) : Vfin m d (Proc.devRef (τ := τ) .tc main_arg3) = m (d, Proc.devRef .tc main_arg3) := by
  unfold Vfin Vmid Vpre; after_results_simp; rfl
/-- Argument 4 is unchanged. -/
theorem Vfin_arg4 (d : Dev nD) : Vfin m d (Proc.devRef (τ := τ) .tc main_arg4) = m (d, Proc.devRef .tc main_arg4) := by
  unfold Vfin Vmid Vpre; after_results_simp; rfl

/-- The fourth result: the mask with the tracked elements cleared. -/
theorem Vfin_out (d : Dev nD) : Vfin m d (Proc.devRef (τ := τ) .tc main_v7)
    = (select (m (d, Proc.devRef .tc main_arg4) : IVec S1000000 1) (fun _ => 0#1) (m (d, Proc.devRef .tc main_arg3) : IVec S1000000 1) : IVec S1000000 1) := by
  unfold Vfin
  after_results_simp
  rw [show Vmid m d (Proc.devRef (τ := τ) .tc main_v1) = fun _ => 0#32 from (Function.update_self ..).trans (inp_zero m d),
    show Vmid m d (Proc.devRef (τ := τ) .tc main_arg3) = m (d, Proc.devRef .tc main_arg3) by unfold Vmid Vpre; after_results_simp; rfl,
    show Vmid m d (Proc.devRef (τ := τ) .tc main_arg4) = m (d, Proc.devRef .tc main_arg4) by unfold Vmid Vpre; after_results_simp; rfl]
  funext i
  exact BitVec.or_zero

end Launch

end Cert.KernelIdeal.Probe

end
-- ==== Proof.Reference.lean ====
/-
  The reference's run. `@main` is three host operations: a zero array, and the choice between it and the mask. Its run
  ends with the fourth result at the mask with the tracked elements cleared, the arguments as they were, and, since it
  declares no semaphore, every semaphore at zero.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- `mask` with every element that `track` marks set to false. -/
def cleared {s : Shape} (mask track : IVec s 1) : IVec s 1 := select track (fun _ => 0#1) mask

/-- The reference runs, keeps its arguments, and ends with every semaphore at zero. -/
theorem reference_frame : Cert.quiescent_ReferenceIdeal := fun m ρ _ =>
  (θ_run Cert.ReferenceIdeal.defs _ _).mono
    (fun r h => ⟨fun c => ⟨(h c).1, (h c).2.1, (h c).2.2.1, (h c).2.2.2.2.2.2.2.1, (h c).2.2.2.2.2.2.2.2⟩,
      sem_eq_zero_of_no_sems (by decide) r.2⟩)
    (Cert.ReferenceIdeal.Value.run (F := Ideal) m ρ)

/-- The reference's fourth result is the cleared mask. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r =>
      ∀ c : Dev Cert.ReferenceIdeal.nD,
        r.2.mem ((c.tc : Thread Cert.ReferenceIdeal.nD Cert.ReferenceIdeal.τ).loc Cert.ReferenceIdeal.main_v1)
            = cleared (s := Cert.ReferenceIdeal.S1000000) (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) :=
  (θ_run Cert.ReferenceIdeal.defs _ _).mono (fun _ h c => ⟨(h c).2.2.2.1.trans rfl, (h c).2.2.2.2⟩)
    (Cert.ReferenceIdeal.Value.run (F := Ideal) m ρ)

end Cert.Proof

end
-- ==== Proof.ProbeClaims.lean ====
/-
  What the certificate claims of the fastest version, `Cert.Kernel`: its frame, the frame of `Cert.KernelIdeal`, and
  that `Cert.KernelIdeal` computes the reference's four results. All three are the two programs' runs (`ProbeRun`,
  `ProbeRunIdeal`), read at the arguments and the results.
-/
module

public import proofs.«01_k».proof.Proof.ProbeRun
public import proofs.«01_k».proof.Proof.ProbeRunIdeal
public import proofs.«01_k».proof.Proof.Reference

@[expose] public section

noncomputable section

namespace Cert.Proof

open Idealize.ShloMosaic Idealize.SL.Sem

/-- Every run of `Cert.Kernel` keeps the arguments and ends with every semaphore at zero. -/
theorem probe_frame : Cert.quiescent_Kernel := fun m ρ _ =>
  (θ_run Cert.Kernel.defs _ _).mono
    (fun _ h => ⟨fun c => ⟨(h.1 c _ (Cert.Kernel.Probe.ref_mem Cert.Kernel.main_arg0 rfl)).trans (Cert.Kernel.Probe.Vfin_arg0 m c),
      (h.1 c _ (Cert.Kernel.Probe.ref_mem Cert.Kernel.main_arg1 rfl)).trans (Cert.Kernel.Probe.Vfin_arg1 m c),
      (h.1 c _ (Cert.Kernel.Probe.ref_mem Cert.Kernel.main_arg2 rfl)).trans (Cert.Kernel.Probe.Vfin_arg2 m c),
      (h.1 c _ (Cert.Kernel.Probe.ref_mem Cert.Kernel.main_arg3 rfl)).trans (Cert.Kernel.Probe.Vfin_arg3 m c),
      (h.1 c _ (Cert.Kernel.Probe.ref_mem Cert.Kernel.main_arg4 rfl)).trans (Cert.Kernel.Probe.Vfin_arg4 m c)⟩, h.2⟩)
    (Cert.Kernel.Probe.run_main (F := Bits) m ρ)

/-- Every run of `Cert.KernelIdeal` keeps the arguments and ends with every semaphore at zero. -/
theorem probe_ideal_frame : Cert.quiescent_KernelIdeal := fun m ρ _ =>
  (θ_run Cert.KernelIdeal.defs _ _).mono
    (fun _ h => ⟨fun c => ⟨(h.1 c _ (Cert.KernelIdeal.Probe.ref_mem Cert.KernelIdeal.main_arg0 rfl)).trans (Cert.KernelIdeal.Probe.Vfin_arg0 m c),
      (h.1 c _ (Cert.KernelIdeal.Probe.ref_mem Cert.KernelIdeal.main_arg1 rfl)).trans (Cert.KernelIdeal.Probe.Vfin_arg1 m c),
      (h.1 c _ (Cert.KernelIdeal.Probe.ref_mem Cert.KernelIdeal.main_arg2 rfl)).trans (Cert.KernelIdeal.Probe.Vfin_arg2 m c),
      (h.1 c _ (Cert.KernelIdeal.Probe.ref_mem Cert.KernelIdeal.main_arg3 rfl)).trans (Cert.KernelIdeal.Probe.Vfin_arg3 m c),
      (h.1 c _ (Cert.KernelIdeal.Probe.ref_mem Cert.KernelIdeal.main_arg4 rfl)).trans (Cert.KernelIdeal.Probe.Vfin_arg4 m c)⟩, h.2⟩)
    (Cert.KernelIdeal.Probe.run_main (F := Ideal) m ρ)

/-- `Cert.KernelIdeal` and the reference, from equal arguments, end with equal results: the first three arguments
    and the cleared mask. -/
theorem probe_algebraic : Cert.algebraic_KernelIdeal_ReferenceIdeal := by
  intro m g m' g' _ hargs
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => m ((c.tc : Thread Cert.KernelIdeal.nD Cert.KernelIdeal.τ).loc Cert.KernelIdeal.main_arg2),
    fun c => cleared (s := Cert.KernelIdeal.S1000000) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ?_) (Cert.KernelIdeal.Probe.run_main (F := Ideal) m g)
    have h0 := (h.1 c _ (Cert.KernelIdeal.Probe.ref_mem Cert.KernelIdeal.main_arg0 rfl)).trans (Cert.KernelIdeal.Probe.Vfin_arg0 m c)
    have h1 := (h.1 c _ (Cert.KernelIdeal.Probe.ref_mem Cert.KernelIdeal.main_arg1 rfl)).trans (Cert.KernelIdeal.Probe.Vfin_arg1 m c)
    have h2 := (h.1 c _ (Cert.KernelIdeal.Probe.ref_mem Cert.KernelIdeal.main_arg2 rfl)).trans (Cert.KernelIdeal.Probe.Vfin_arg2 m c)
    exact ⟨h0, h1, h2,
      (h.1 c _ (Cert.KernelIdeal.Probe.ref_mem Cert.KernelIdeal.main_v7 rfl)).trans (Cert.KernelIdeal.Probe.Vfin_out m c), h0, h1, h2,
      (h.1 c _ (Cert.KernelIdeal.Probe.ref_mem Cert.KernelIdeal.main_arg3 rfl)).trans (Cert.KernelIdeal.Probe.Vfin_arg3 m c),
      (h.1 c _ (Cert.KernelIdeal.Probe.ref_mem Cert.KernelIdeal.main_arg4 rfl)).trans (Cert.KernelIdeal.Probe.Vfin_arg4 m c)⟩
  · refine (θ_run Cert.ReferenceIdeal.defs _ _).mono (fun _ h c => ?_) (reference_run m' g')
    obtain ⟨a0, a1, a2, a3, a4⟩ := hargs c
    obtain ⟨hv, h0, h1, h2, h3, h4⟩ := h c
    exact ⟨h0.trans a0, h1.trans a1, h2.trans a2, hv.trans (congrArg₂ (cleared (s := Cert.KernelIdeal.S1000000)) a3 a4), h0, h1, h2, h3, h4⟩

end Cert.Proof

end
-- ==== Proof.Bytes.lean ====
/-
  Bits packed four to a word, cleared a word at a time, and unpacked.

  The simplest version widens each boolean to a byte, pads the bytes to a multiple of the block, reads four bytes as one
  32-bit word, clears in each mask word the bits of the track word, reads the words as bytes again, drops the padding and
  compares with zero. This file proves that the outcome is, element by element, the mask with the tracked elements
  cleared: clearing bits commutes with taking a word's bytes, and of a byte that is zero or one the comparison reads the
  boolean.
-/
module

public import Idealize.ShloMosaic.PureOps
public import Idealize.ShloMosaic.Lib.BitcastConvert
public import Idealize.ShloMosaic.Lib.KernelVsHost
public import Idealize.ShloMosaic.Lib.Pipeline.Value

@[expose] public section

noncomputable section

namespace Cert.Proof.Bytes

open Idealize.ShloMosaic

/-- The shape of `n` elements in a row. -/
abbrev row (n : ℕ) : Shape := ⟨1, ![n]⟩

/-- The bits of a part of `x &&& ~~~ y` are those of `x`'s part cleared by `y`'s. -/
theorem extract_clear {v : ℕ} (x y : BitVec v) (a w : ℕ) (h : a + w ≤ v) :
    (x &&& ~~~ y).extractLsb' a w = x.extractLsb' a w &&& ~~~ y.extractLsb' a w := by
  apply BitVec.eq_of_getLsbD_eq
  intro q hq
  simp only [BitVec.getLsbD_extractLsb', BitVec.getLsbD_and, BitVec.getLsbD_not, hq, decide_true, Bool.true_and,
    show a + q < v by omega]

/-- Words cleared, then read as their parts: the parts cleared. -/
theorem narrow_clear {s t : Shape} {v w : ℕ} (x y : IVec s v) (h : s.SplitsWords v t w) :
    Host.bitcastConvertNarrow t w (fun i => x i &&& ~~~ y i : IVec s v) h
      = fun j => Host.bitcastConvertNarrow t w x h j &&& ~~~ Host.bitcastConvertNarrow t w y h j := by
  funext j
  rw [Host.bitcastConvertNarrow_apply, Host.bitcastConvertNarrow_apply, Host.bitcastConvertNarrow_apply]
  refine extract_clear _ _ _ _ ?_
  have hs := h.size_axis_mul
  calc (j h.axis).val * w + w = ((j h.axis).val + 1) * w := (Nat.succ_mul _ _).symm
    _ ≤ t.size h.axis * w := Nat.mul_le_mul_right _ (j h.axis).isLt
    _ = v := hs

/-- The first `n` elements of a row padded at its end are the row. -/
theorem slice_pad {α : Type} {n k m : ℕ} (x : (row n).Idx → α) {u : Shape} (c : u.Idx → α)
    (hp : (row n).Pads (![0] : Fin 1 → ℕ) ![k] ![0] (row m)) (hu : 0 < u.numel) (hs : (row m).Slices (![0] : Fin 1 → ℕ) (row n)) :
    extractStridedSlice (row n) ![0] (pad (row m) ![0] ![k] ![0] x c hp hu) hs = x := by
  funext i
  unfold extractStridedSlice pad
  have hi : (i 0).val < n := (i 0).isLt
  rw [dif_pos]
  · refine congrArg x (funext fun a => Fin.ext ?_)
    match a with
    | 0 => show (0 + (i 0).val - 0) / (0 + 1) = (i 0).val; omega
  · intro a
    match a with
    | 0 =>
      show 0 ≤ 0 + (i 0).val ∧ (0 + (i 0).val - 0) % (0 + 1) = 0 ∧ (0 + (i 0).val - 0) / (0 + 1) < n
      omega

/-- Of two booleans as bytes: the first's byte with the second's bits cleared is nonzero exactly where the first is
    true and the second is not. -/
theorem byte_clear (a b : BitVec 1) :
    IntOp.cmpi .ne (a.setWidth 8 &&& ~~~ b.setWidth 8) 0#8 = if b = 1 then 0#1 else a := by
  revert a b; decide

/-- Booleans as bytes, padded, four bytes to a word. -/
abbrev packed {n k m : ℕ} {q w u : Shape} (x : IVec (row n) 1) (c : IVec u 8) (h8 : 1 < 8)
    (hp : (row n).Pads (![0] : Fin 1 → ℕ) ![k] ![0] (row m)) (hu : 0 < u.numel) (hc : (row m).ShapeCasts q) (hw : w.SplitsWords 32 q 8) : IVec w 32 :=
  Host.bitcastConvertWiden w 32 (shapeCast q (pad (row m) ![0] ![k] ![0] (extui 8 x h8) c hp hu) hc) hw

/-- Packed mask words cleared by packed track words, unpacked and compared with zero: the mask with the tracked
    elements cleared. -/
theorem unpack_clear {n k m : ℕ} {q w u : Shape} (mask track : IVec (row n) 1) (c c' : IVec u 8) (z : IVec (row n) 8) (hz : ∀ i, z i = 0#8) (h8 : 1 < 8)
    (hp : (row n).Pads (![0] : Fin 1 → ℕ) ![k] ![0] (row m)) (hu : 0 < u.numel) (hc : (row m).ShapeCasts q) (hc' : q.ShapeCasts (row m))
    (hw : w.SplitsWords 32 q 8) (hs : (row m).Slices (![0] : Fin 1 → ℕ) (row n)) :
    cmpi .ne (extractStridedSlice (row n) ![0] (shapeCast (row m) (Host.bitcastConvertNarrow q 8
        (fun y => packed mask c h8 hp hu hc hw y &&& ~~~ packed track c' h8 hp hu hc hw y : IVec w 32) hw) hc') hs) z
      = select track (fun _ => 0#1) mask := by
  rw [narrow_clear, Host.bitcastConvertNarrow_widen, Host.bitcastConvertNarrow_widen]
  funext i
  have h0 : ∀ (x : IVec (row n) 1) (d : IVec u 8),
      extractStridedSlice (row n) ![0] (shapeCast (row m) (shapeCast q (pad (row m) ![0] ![k] ![0] (extui 8 x h8) d hp hu) hc) hc') hs i = (x i).setWidth 8 := by
    intro x d
    rw [shapeCast_shapeCast, slice_pad]
    rfl
  refine Eq.trans ?_ (byte_clear (mask i) (track i))
  rw [← h0 mask c, ← h0 track c', ← hz i]
  rfl

end Cert.Proof.Bytes

end
-- ==== Proof.WordsTileIdeal.lean ====
/-
  The vector-subcore task of `Cert.WordsIdeal`'s SparseCore call, with values.

  The call runs 2 × 16 tasks. Task `(c, s)` owns the block of 8192 words at `16384 s + 8192 c` of all three arrays of
  262144 words: it copies its block of the mask words and its block of the track words into its tile memory, clears in
  each mask word the bits of the track word sixteen words at a time, and copies the tile memory out to its block of the
  output. This file proves that from mask words `x` and track words `t` the task ends with the output's block at
  `fun y => x y &&& ~~~ t y`, both inputs untouched, every semaphore back at zero.
-/
module

public import proofs.«01_k».proof.Defs
public import proofs.«01_k».proof.Proof.Blocks
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.Pipeline.Value
public import proofs.«01_k».proof.Proof.Gen.WordsIdeal
public import proofs.«01_k».proof.Proof.Gen.WordsIdeal.Skeleton

@[expose] public section

noncomputable section

namespace Cert.WordsIdeal.Tile

open Cert.WordsIdeal Cert.WordsIdeal.Gen
open Cert.Proof.Blocks

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels, its configuration, its body table and the variants that its proof runs with. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The configuration's own conditions: its four handshake semaphores are distinct and no kernel's scratch. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

-- the kernel's memrefs, as the body table passes them
local notation "xV" => (Memref.whole Cert.WordsIdeal.main_v3_scv : Memref Cert.WordsIdeal.sig Kind.scVector Space.hbm Cert.WordsIdeal.S262144 EltTy.i32)
local notation "tV" => (Memref.whole Cert.WordsIdeal.main_v7_scv : Memref Cert.WordsIdeal.sig Kind.scVector Space.hbm Cert.WordsIdeal.S262144 EltTy.i32)
local notation "oV" => (Memref.whole Cert.WordsIdeal.main_v8_scv : Memref Cert.WordsIdeal.sig Kind.scVector Space.hbm Cert.WordsIdeal.S262144 EltTy.i32)
local notation "aV" => (Memref.whole Cert.WordsIdeal.cc0_scratch0 : Memref Cert.WordsIdeal.sig Kind.scVector Space.vmem Cert.WordsIdeal.S8192 EltTy.i32)
local notation "bV" => (Memref.whole Cert.WordsIdeal.cc0_scratch1 : Memref Cert.WordsIdeal.sig Kind.scVector Space.vmem Cert.WordsIdeal.S8192 EltTy.i32)

/-- The call's three arrays: the mask words, the track words, the output. -/
abbrev xLoc (d : Dev nD) : Loc nD τ sig := (SparseCore.T d).loc main_v3
abbrev tLoc (d : Dev nD) : Loc nD τ sig := (SparseCore.T d).loc main_v7
abbrev oLoc (d : Dev nD) : Loc nD τ sig := (SparseCore.T d).loc main_v8

/-- The words `I` of each array at contents `f` of the whole array. -/
abbrev xBlk (d : Dev nD) (I : Finset S262144.Idx) (f : S262144.Idx → BitVec 32) : sProp 𝕄 := xLoc d ↦[I]{fullShare} (f : Buf (Elt F) (xLoc d))
abbrev tBlk (d : Dev nD) (I : Finset S262144.Idx) (f : S262144.Idx → BitVec 32) : sProp 𝕄 := tLoc d ↦[I]{fullShare} (f : Buf (Elt F) (tLoc d))
abbrev oBlk (d : Dev nD) (I : Finset S262144.Idx) (f : S262144.Idx → BitVec 32) : sProp 𝕄 := oLoc d ↦[I]{fullShare} (f : Buf (Elt F) (oLoc d))

/-- What the call computes: in each mask word the bits of the track word cleared. -/
def clear (x t : S262144.Idx → BitVec 32) : S262144.Idx → BitVec 32 := fun y => x y &&& ~~~ t y

/-! ## The task -/

section Tile

variable [FloatOps F]
variable (d : Dev nD) (L : grid0.Coords)

/-- The task's SparseCore and subcore. -/
abbrev cV (L : grid0.Coords) : Fin τ.nSC := (L 0).castLE hcore0
abbrev jV (L : grid0.Coords) : Fin τ.nSub := (L 1).castLE hsub0

/-- The block that the body addresses, as it spells it. -/
abbrev blkK (L : grid0.Coords) : Rect S262144 := Rect.unit (s := S262144) (k0_off1 L) S8192.size (k0_off1_inb L)
abbrev xBlkK (L : grid0.Coords) : Memref sig .scVector .hbm S8192 .i32 := (xV).slice (blkK L) (fun _ => rfl)
abbrev tBlkK (L : grid0.Coords) : Memref sig .scVector .hbm S8192 .i32 := (tV).slice (blkK L) (fun _ => rfl)
abbrev oBlkK (L : grid0.Coords) : Memref sig .scVector .hbm S8192 .i32 := (oV).slice (blkK L) (fun _ => rfl)

omit [FloatOps F] in
/-- The rectangle that the body addresses holds the task's block. -/
theorem blkK_set : (blkK L).set = blk (L 0).val (L 1).val := by
  ext y
  rw [Rect.mem_set_unit, mem_blk, k0_off1_eq]
  constructor
  · intro h; exact h 0
  · intro h a
    match a with
    | 0 => exact h

omit [FloatOps F] in
/-- The input's slice covers the task's block. -/
theorem set_xBlkK : (xBlkK L).view.set = blk (L 0).val (L 1).val := by
  rw [← blkK_set]
  show ((View.whole (main_v3_scv : Ref sig .scVector)).slice (blkK L)).set = _
  rw [View.set_slice]; exact Finset.map_refl
omit [FloatOps F] in
/-- Holding the input's slice as the body addresses it is holding the task's block of the input. -/
theorem pts_xBlkK (f : Buf (Elt F) (xLoc d)) :
    ((xBlkK L).view.loc (V d (cV L) (jV L)) ↦[(xBlkK L).view.set]{fullShare} f : sProp 𝕄) = xLoc d ↦[blk (L 0).val (L 1).val]{fullShare} f := by
  rw [set_xBlkK]
omit [FloatOps F] in
/-- The track words' slice covers the task's block. -/
theorem set_tBlkK : (tBlkK L).view.set = blk (L 0).val (L 1).val := by
  rw [← blkK_set]
  show ((View.whole (main_v7_scv : Ref sig .scVector)).slice (blkK L)).set = _
  rw [View.set_slice]; exact Finset.map_refl
omit [FloatOps F] in
/-- Holding the track words' slice as the body addresses it is holding the task's block of the track words. -/
theorem pts_tBlkK (f : Buf (Elt F) (tLoc d)) :
    ((tBlkK L).view.loc (V d (cV L) (jV L)) ↦[(tBlkK L).view.set]{fullShare} f : sProp 𝕄) = tLoc d ↦[blk (L 0).val (L 1).val]{fullShare} f := by
  rw [set_tBlkK]
omit [FloatOps F] in
/-- The output's slice covers the task's block. -/
theorem set_oBlkK : (oBlkK L).view.set = blk (L 0).val (L 1).val := by
  rw [← blkK_set]
  show ((View.whole (main_v8_scv : Ref sig .scVector)).slice (blkK L)).set = _
  rw [View.set_slice]; exact Finset.map_refl
omit [FloatOps F] in
/-- Holding the output's slice as the body addresses it is holding the task's block of the output. -/
theorem pts_oBlkK (f : Buf (Elt F) (oLoc d)) :
    ((oBlkK L).view.loc (V d (cV L) (jV L)) ↦[(oBlkK L).view.set]{fullShare} f : sProp 𝕄) = oLoc d ↦[blk (L 0).val (L 1).val]{fullShare} f := by
  rw [set_oBlkK]
omit [FloatOps F] in
/-- Holding the first tile memory as the body addresses it is holding its buffer. -/
theorem pts_aV (f : Buf (Elt F) ((V d (cV L) (jV L)).loc cc0_scratch0)) :
    ((aV).view.loc (V d (cV L) (jV L)) ↦{fullShare} f : sProp 𝕄) = (V d (cV L) (jV L)).loc cc0_scratch0 ↦{fullShare} f := rfl
omit [FloatOps F] in
/-- Holding the second tile memory as the body addresses it is holding its buffer. -/
theorem pts_bV (f : Buf (Elt F) ((V d (cV L) (jV L)).loc cc0_scratch1)) :
    ((bV).view.loc (V d (cV L) (jV L)) ↦{fullShare} f : sProp 𝕄) = (V d (cV L) (jV L)).loc cc0_scratch1 ↦{fullShare} f := rfl

/-- The three DMA semaphores that the body waits on. -/
abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

omit [FloatOps F] in
/-- The subcore's own semaphores at zero: the ones that the body waits on, together with the rest. -/
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by
      show (SemLoc.dma cc0_scoped2.sem : SemLoc sig).isScoped .scVector = true; decide⟩⟩⟩)]

omit [FloatOps F] in
/-- The subcore's own buffers: the two tile memories at some contents, together with the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
                ((Proc.scVector (cV L) (jV L)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L))
    (b := (Proc.scVector (cV L) (jV L)).devRef cc0_scratch0) rfl)]
  congr 1
  exact SparseCore.bigSep_erase' (Finset.mem_erase.mpr ⟨by
      intro h; exact absurd ((Proc.scVector (cV L) (jV L)).devRef_injective h) (show ¬ (cc0_scratch1 : Ref sig .scVector) = cc0_scratch0 by decide),
    SparseCore.Cfg.mem_ownRefs_of_owner (p := Proc.scVector (cV L) (jV L))
      (b := (Proc.scVector (cV L) (jV L)).devRef cc0_scratch1) rfl⟩)

omit [FloatOps F] in
/-- A whole write of a block through the output's slice, its payload the block of `g`, leaves the output's block at `g`. -/
theorem out_pts (g fo : S262144.Idx → BitVec 32) (w : S8192.Idx → BitVec 32) (hw : ∀ z, w z = (oBlkK L).view.read (Elt F) g z) :
    ((oBlkK L).view.loc (V d (cV L) (jV L)) ↦[(oBlkK L).view.set]{fullShare}
        (oBlkK L).view.writes (Elt F) (fo : (oBlkK L).view.ty.Contents (Elt F)) [⟨Rect.whole S8192, w⟩] : sProp 𝕄)
      ⊢ oBlk (F := F) d (blk (L 0).val (L 1).val) g := by
  rw [pointsTo_congr (writes_read (Val := Elt F) (oBlkK L).view fo g w hw)]
  exact Entails.of_eq (pts_oBlkK (F := F) d L g)

/-! ### The loop -/

/-- The tile memory's word `z` before trip `k`: the trips so far have cleared the words below `16 k`. -/
def part (x t : S8192.Idx → BitVec 32) (k : ℕ) : S8192.Idx → BitVec 32 :=
  fun z => if (z 0).val < 16 * k then x z &&& ~~~ t z else x z

/-- The loop's invariant: the first tile memory at `part x t k`, the second at `t`. -/
def inv (x t : S8192.Idx → BitVec 32) (k : ℕ) (_ : PUnit) : sProp 𝕄 :=
  iprop((∃ f, ⌜∀ z, (aV).view.read (Elt F) f z = part x t k z⌝ ∗ (aV).view.loc (V d (cV L) (jV L)) ↦{fullShare} f)
    ∗ ∃ f, ⌜∀ z, (bV).view.read (Elt F) f z = t z⌝ ∗ (bV).view.loc (V d (cV L) (jV L)) ↦{fullShare} f)

omit [FloatOps F] in
/-- The value that a trip stores, lane by lane. -/
theorem pay_apply (v w : Vec F S16 .i32) (i : S16.Idx) : k0_pay1 (F := F) v w i = (v i &&& ~~~ w i : BitVec 32) := by
  unfold k0_pay1
  simp only [shapeCast_self]
  show (v i &&& (w i ^^^ 4294967295#32) : BitVec 32) = v i &&& ~~~ w i
  have h : (4294967295#32) = BitVec.allOnes 32 := rfl
  rw [h, BitVec.xor_allOnes]

/-- Lane `n` of sixteen. -/
def lane (n : ℕ) (h : n < 16) : S16.Idx := fun | 0 => ⟨n, h⟩

omit [FloatOps F] in
/-- Trip `k` takes the first tile memory from `part x t k` to `part x t (k + 1)`: the sixteen words it stores are the
    ones at `16 k`, which it reads uncleared. -/
theorem trip_read (x t : S8192.Idx → BitVec 32) (k : Fin k0_t1_loop.trips)
    (f : (aV).view.ty.Contents (Elt F)) (g : (bV).view.ty.Contents (Elt F))
    (hf : ∀ z, (aV).view.read (Elt F) f z = part x t k.val z) (hg : ∀ z, (bV).view.read (Elt F) g z = t z) (z : S8192.Idx) :
    (aV).view.read (Elt F) ((aV).view.writes (Elt F) f
      [⟨Rect.unit (s := S8192) (k0_off2 k) S16.size (k0_off2_inb k),
        k0_pay1 ((aV).view.readAt (Elt F) (Rect.unit (s := S8192) (k0_off2 k) S16.size (k0_off2_inb k)).toLoadRect f)
          ((bV).view.readAt (Elt F) (Rect.unit (s := S8192) (k0_off2 k) S16.size (k0_off2_inb k)).toLoadRect g)⟩]) z
      = part x t (k.val + 1) z := by
  by_cases hz : 16 * k.val ≤ (z 0).val ∧ (z 0).val < 16 * k.val + 16
  · have hl : (z 0).val - 16 * k.val < 16 := by omega
    have hi : ∀ a, (z a).val = (![16 * k.val] : Fin 1 → ℕ) a + ((lane ((z 0).val - 16 * k.val) hl) a).val := by
      intro a
      match a with
      | 0 => show (z 0).val = 16 * k.val + ((z 0).val - 16 * k.val); omega
    have hr : (Rect.unit (s := S8192) (k0_off2 k) S16.size (k0_off2_inb k)).toLoadRect.idx
        (lane ((z 0).val - 16 * k.val) hl) = z := by
      funext a
      refine Fin.ext ?_
      show k0_off2 k a + 1 * (lane ((z 0).val - 16 * k.val) hl a).val = (z a).val
      have ho : k0_off2 k a = (![16 * k.val] : Fin 1 → ℕ) a := congrFun (k0_off2_eq k) a
      rw [ho, hi a, Nat.one_mul]
    rw [View.read_writes_cons_unit_of_mem (Val := Elt F) (aV).view f (k0_off2_inb k) _ [] z
      (lane ((z 0).val - 16 * k.val) hl) (k0_off2_eq k) hi]
    rw [pay_apply, View.readAt_apply, View.readAt_apply, hr, hf, hg]
    unfold part
    rw [if_neg (by omega), if_pos (by omega)]
  · have hz' : (z 0).val < (![16 * k.val] : Fin 1 → ℕ) 0 ∨ (![16 * k.val] : Fin 1 → ℕ) 0 + S16.size 0 ≤ (z 0).val := by
      show (z 0).val < 16 * k.val ∨ 16 * k.val + 16 ≤ (z 0).val
      omega
    refine (View.read_writes_cons_unit_of_not_mem (Val := Elt F) (aV).view f (k0_off2_inb k) _ [] z (k0_off2_eq k) 0 hz').trans ?_
    refine (hf z).trans ?_
    unfold part
    by_cases h : (z 0).val < 16 * k.val
    · rw [if_pos h, if_pos (by omega)]
    · rw [if_neg h, if_neg (by omega)]

/-- The task, from its blocks of the mask words at `x`, of the track words at `t` and of the output at anything, to the
    output's block at `clear x t`. -/
theorem tile_body (hF : (K (F := F)).Facts) (x t : S262144.Idx → BitVec 32) (O : CellTallies nD τ sig (HIx 1)) (W : Waits sig (HIx 1)) (hO : ∀ g, O g none = 0) :
    iprop(levAts (K (F := F)).L (K (F := F)).lev ∗ emp
        ∗ (xBlk (F := F) d (blk (L 0).val (L 1).val) x ∗ tBlk (F := F) d (blk (L 0).val (L 1).val) t ∗ ∃ f, oBlk (F := F) d (blk (L 0).val (L 1).val) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_body L xV (Memref.isWhole_whole _) tV (Memref.isWhole_whole _) oV (Memref.isWhole_whole _) aV (Memref.isWhole_whole _) bV (Memref.isWhole_whole _)
            cc0_scoped0 cc0_scoped1 cc0_scoped2)
          fun _ => iprop((xBlk (F := F) d (blk (L 0).val (L 1).val) x ∗ tBlk (F := F) d (blk (L 0).val (L 1).val) t
              ∗ oBlk (F := F) d (blk (L 0).val (L 1).val) (clear x t))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Ht, %fo, Ho⟩, ⟨⟨%fa, Ha⟩, ⟨%fb, Hb⟩, Hbufs⟩, ⟨Hsem0, Hsem1, Hsem2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xBlkK (F := F) d L _).symm) $$ Hx
  ihave Ht' := (Entails.of_eq (pts_tBlkK (F := F) d L _).symm) $$ Ht
  ihave Ho' := (Entails.of_eq (pts_oBlkK (F := F) d L _).symm) $$ Ho
  ihave Ha' := (Entails.of_eq (pts_aV (F := F) d L _).symm) $$ Ha
  ihave Hb' := (Entails.of_eq (pts_bV (F := F) d L _).symm) $$ Hb
  rw [cc0_body_eq_skeleton]
  sl_unfold [cc0_body_skel]
  sl_exec (disch := exact View.amount_pos _ _ (show 0 < S8192.numel by decide))
  sl_for (inv (F := F) d L ((xBlkK L).view.read (Elt F) x) ((tBlkK L).view.read (Elt F) t)) $$ [Ha' Hb']
  case region =>
    intro k _
    unfold inv
    iintro ⟨⟨%f, %hf, Ha⟩, %g, %hg, Hb⟩
    sl_respell [k0_t1_body]
    sl_exec
    sl_step
    isplitl [Ha]
    · iexists _; isplitr
      swap; · iexact Ha
      ipureintro; exact trip_read (F := F) _ _ k f g hf hg
    · iexists _; isplitr
      swap; · iexact Hb
      ipureintro; exact hg
  · unfold inv
    isplitl [Ha']
    · iexists _; isplitr
      swap; · iexact Ha'
      ipureintro; intro z
      refine (congrFun (View.read_write_univ (v := (aV).view) fa _) z).trans ?_
      sl_unfold_run_names
      exact (if_neg (by omega)).symm
    · iexists _; isplitr
      swap; · iexact Hb'
      ipureintro; intro z
      refine (congrFun (View.read_write_univ (v := (bV).view) fb _) z).trans ?_
      sl_unfold_run_names
      rfl
  iintro %_ HI
  unfold inv
  icases HI with ⟨⟨%f, %hf, Ha⟩, %g, %hg, Hb⟩
  sl_exec (disch := exact View.amount_pos _ _ (show 0 < S8192.numel by decide))
  sl_step
  -- the write-out's payload is the tile memory after the loop's last trip
  have hw : ∀ z, tile_body.sl.dma0_2 f z = (oBlkK L).view.read (Elt F) (clear x t) z := by
    intro z
    sl_unfold_run_names
    refine (hf z).trans ?_
    have hz : (z 0).val < 8192 := (z 0).isLt
    have ht : Scf.trips k0_t1_loop.lb k0_t1_loop.ub k0_t1_loop.st = 512 := by decide
    unfold part
    rw [ht, if_pos (by omega)]
    rfl
  isplitl [Hx' Ht' Ho']
  · isplitl [Hx']; · iapply (Entails.of_eq (pts_xBlkK (F := F) d L _)); iexact Hx'
    isplitl [Ht']; · iapply (Entails.of_eq (pts_tBlkK (F := F) d L _)); iexact Ht'
    iapply (out_pts (F := F) d L (clear x t) fo _ hw); iexact Ho'
  isplitl [Ha Hb Hbufs]
  · isplitl [Ha]; · iexists _; iexact Ha
    isplitl [Hb]; · iexists _; iexact Hb
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr
  swap; · iexact HO
  -- every recorded wait of the one call is at index `none` or `some 0`
  ipureintro; intro p _
  rcases p.2 with _ | q
  · exact .inr (.inl rfl)
  · exact .inr (.inr (congrArg some (Subsingleton.elim q 0)))

end Tile

end Cert.WordsIdeal.Tile

end
-- ==== Proof.WordsRunIdeal.lean ====
/-
  The run of `Cert.WordsIdeal`, with values.

  `@main` packs the mask and the track booleans four to a word, calls the SparseCores, and unpacks the words that the
  call leaves. The call clears in each mask word the bits of the track word, block by block over the thirty-two tasks of
  `WordsTileIdeal`. This file launches the call and states where a run of the program ends: every buffer of `@main` at the
  contents that the two lines of host operations, with that clearing between them, leave there, and every semaphore at
  zero.
-/
module

public import proofs.«01_k».proof.Proof.WordsTileIdeal
public import proofs.«01_k».proof.Proof.Bytes
public import Idealize.ShloMosaic.Lib.Pipeline.Frame

@[expose] public section

noncomputable section

namespace Cert.WordsIdeal.Tile

open Cert.WordsIdeal Cert.WordsIdeal.Gen
open Cert.Proof.Blocks

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "xV" => (Memref.whole Cert.WordsIdeal.main_v3_scv : Memref Cert.WordsIdeal.sig Kind.scVector Space.hbm Cert.WordsIdeal.S262144 EltTy.i32)
local notation "tV" => (Memref.whole Cert.WordsIdeal.main_v7_scv : Memref Cert.WordsIdeal.sig Kind.scVector Space.hbm Cert.WordsIdeal.S262144 EltTy.i32)
local notation "oV" => (Memref.whole Cert.WordsIdeal.main_v8_scv : Memref Cert.WordsIdeal.sig Kind.scVector Space.hbm Cert.WordsIdeal.S262144 EltTy.i32)
local notation "aV" => (Memref.whole Cert.WordsIdeal.cc0_scratch0 : Memref Cert.WordsIdeal.sig Kind.scVector Space.vmem Cert.WordsIdeal.S8192 EltTy.i32)
local notation "bV" => (Memref.whole Cert.WordsIdeal.cc0_scratch1 : Memref Cert.WordsIdeal.sig Kind.scVector Space.vmem Cert.WordsIdeal.S8192 EltTy.i32)

/-! ## `@main`'s two lines of host operations -/

/-- The operations before the call: the mask packed, then the track. -/
abbrev opsA : List (HloOp τ sig (Elt F)) :=
  [ StableHlo.unary main_arg3 main_v0 ((extui 8 · natLt_1_8) : (⟨S1000000, .i1⟩ : BufTy).Contents (Elt F) → (⟨S1000000, .i8⟩ : BufTy).Contents (Elt F)),
    StableHlo.nullary main_c (constantI S_ 32 0#32),
    StableHlo.unary main_c main_call0_v0 ((trunci 8 · natLt_8_32) : (⟨S_, .i32⟩ : BufTy).Contents (Elt F) → (⟨S_, .i8⟩ : BufTy).Contents (Elt F)),
    StableHlo.binary main_v0 main_call0_v0 main_v1 ((fun x v => pad S1048576 ![0] ![48576] ![0] x v pads_S1000000_S1048576_0485760 h_S_) : (⟨S1000000, .i8⟩ : BufTy).Contents (Elt F) → (⟨S_, .i8⟩ : BufTy).Contents (Elt F) → (⟨S1048576, .i8⟩ : BufTy).Contents (Elt F)),
    StableHlo.reshape main_v1 main_v2 (rfl : (.i8 : EltTy) = .i8) shapeCasts_S1048576_S262144x4,
    StableHlo.unary main_v2 main_v3 ((fun x => Host.bitcastConvertWiden S262144 32 x splits_S262144_w32_S262144x4_w8) : (⟨S262144x4, .i8⟩ : BufTy).Contents (Elt F) → (⟨S262144, .i32⟩ : BufTy).Contents (Elt F)),
    StableHlo.unary main_arg4 main_v4 ((extui 8 · natLt_1_8) : (⟨S1000000, .i1⟩ : BufTy).Contents (Elt F) → (⟨S1000000, .i8⟩ : BufTy).Contents (Elt F)),
    StableHlo.nullary main_c_0 (constantI S_ 32 0#32),
    StableHlo.unary main_c_0 main_call1_v0 ((trunci 8 · natLt_8_32) : (⟨S_, .i32⟩ : BufTy).Contents (Elt F) → (⟨S_, .i8⟩ : BufTy).Contents (Elt F)),
    StableHlo.binary main_v4 main_call1_v0 main_v5 ((fun x v => pad S1048576 ![0] ![48576] ![0] x v pads_S1000000_S1048576_0485760 h_S_) : (⟨S1000000, .i8⟩ : BufTy).Contents (Elt F) → (⟨S_, .i8⟩ : BufTy).Contents (Elt F) → (⟨S1048576, .i8⟩ : BufTy).Contents (Elt F)),
    StableHlo.reshape main_v5 main_v6 (rfl : (.i8 : EltTy) = .i8) shapeCasts_S1048576_S262144x4,
    StableHlo.unary main_v6 main_v7 ((fun x => Host.bitcastConvertWiden S262144 32 x splits_S262144_w32_S262144x4_w8) : (⟨S262144x4, .i8⟩ : BufTy).Contents (Elt F) → (⟨S262144, .i32⟩ : BufTy).Contents (Elt F)) ]

/-- The operations after it: the words unpacked and compared with zero. -/
abbrev opsB : List (HloOp τ sig (Elt F)) :=
  [ StableHlo.unary main_v8 main_v9 ((fun x => Host.bitcastConvertNarrow S262144x4 8 x splits_S262144_w32_S262144x4_w8) : (⟨S262144, .i32⟩ : BufTy).Contents (Elt F) → (⟨S262144x4, .i8⟩ : BufTy).Contents (Elt F)),
    StableHlo.reshape main_v9 main_v10 (rfl : (.i8 : EltTy) = .i8) shapeCasts_S262144x4_S1048576,
    StableHlo.unary main_v10 main_v11 ((extractStridedSlice S1000000 ![0] · slices_S1048576_S1000000_0) : (⟨S1048576, .i8⟩ : BufTy).Contents (Elt F) → (⟨S1000000, .i8⟩ : BufTy).Contents (Elt F)),
    StableHlo.nullary main_c_1 (constantI S_ 8 0#8),
    StableHlo.unary main_c_1 main_v12 (broadcastInDim S1000000 ![] bcast_S_S1000000 : (⟨S_, .i8⟩ : BufTy).Contents (Elt F) → (⟨S1000000, .i8⟩ : BufTy).Contents (Elt F)),
    StableHlo.binary main_v11 main_v12 main_v13 (cmpi .ne : (⟨S1000000, .i8⟩ : BufTy).Contents (Elt F) → (⟨S1000000, .i8⟩ : BufTy).Contents (Elt F) → (⟨S1000000, .i1⟩ : BufTy).Contents (Elt F)),
    StableHlo.unary main_v13 main_v14 (id : (⟨S1000000, .i1⟩ : BufTy).Contents (Elt F) → (⟨S1000000, .i1⟩ : BufTy).Contents (Elt F)) ]

/-- `@main` is the first line, the call, the second line. -/
theorem main_eq (d : Dev nD) :
    main (F := F) d = (StableHlo.seq opsA >>= fun _ => (sc (F := F)).run d 0 >>= fun _ => StableHlo.seq opsB >>= fun _ => pure ⟨⟩) := rfl

/-- The first line touches `@main`'s buffers alone. -/
theorem opsA_sub : ∀ op ∈ (opsA : List (HloOp τ sig (Elt F))), op.bufs ⊆ Pipeline.ucRefs τ sig := by
  intro op h
  refine Pipeline.sub_ucRefs op ?_
  revert op
  simp only [opsA, List.mem_cons, List.not_mem_nil, or_false, forall_eq_or_imp, forall_eq]
  refine ⟨?_, ?_, ?_, ?_, ?_, ?_, ?_, ?_, ?_, ?_, ?_, ?_⟩ <;> simp

/-- The second line touches `@main`'s buffers alone. -/
theorem opsB_sub : ∀ op ∈ (opsB : List (HloOp τ sig (Elt F))), op.bufs ⊆ Pipeline.ucRefs τ sig := by
  intro op h
  refine Pipeline.sub_ucRefs op ?_
  revert op
  simp only [opsB, List.mem_cons, List.not_mem_nil, or_false, forall_eq_or_imp, forall_eq]
  refine ⟨?_, ?_, ?_, ?_, ?_, ?_, ?_⟩ <;> simp

/-- The first line allocates nothing. -/
theorem opsA_fresh : ∀ op ∈ (opsA : List (HloOp τ sig (Elt F))), op.fresh = ∅ := by
  simp only [opsA, List.mem_cons, List.not_mem_nil, or_false, forall_eq_or_imp, forall_eq]
  refine ⟨?_, ?_, ?_, ?_, ?_, ?_, ?_, ?_, ?_, ?_, ?_, ?_⟩ <;> rfl

/-- The second line allocates nothing. -/
theorem opsB_fresh : ∀ op ∈ (opsB : List (HloOp τ sig (Elt F))), op.fresh = ∅ := by
  simp only [opsB, List.mem_cons, List.not_mem_nil, or_false, forall_eq_or_imp, forall_eq]
  refine ⟨?_, ?_, ?_, ?_, ?_, ?_, ?_⟩ <;> rfl

/-! ## What the program's buffers hold -/

section Launch

variable (m : (ℓ : Loc nD τ sig) → Buf (Elt F) ℓ) (ρ : Dev nD → PrngReg)

/-- The buffers after the first line. -/
def Vpre (d : Dev nD) : Valuation τ sig (Elt F) := StableHlo.after opsA fun b => m (d, b)

/-- The call's mask words and track words. -/
def inpX (d : Dev nD) : S262144.Idx → BitVec 32 := Vpre m d (Proc.devRef (τ := τ) .tc main_v3)
def inpT (d : Dev nD) : S262144.Idx → BitVec 32 := Vpre m d (Proc.devRef (τ := τ) .tc main_v7)

/-- What the call computes from them. -/
def out (d : Dev nD) : S262144.Idx → BitVec 32 := clear (inpX m d) (inpT m d)

/-- The call's output array, before the call. -/
def out₀ (d : Dev nD) : S262144.Idx → BitVec 32 := Vpre m d (Proc.devRef (τ := τ) .tc main_v8)

/-- The buffers after the call: its output array at the cleared words. -/
def Vmid (d : Dev nD) : Valuation τ sig (Elt F) :=
  Function.update (Vpre m d) (Proc.devRef (τ := τ) .tc main_v8) (out m d)

/-- The buffers after the second line. -/
def Vfin (d : Dev nD) : Valuation τ sig (Elt F) := StableHlo.after opsB (Vmid m d)

/-! ## The launch's record -/

/-- One task's pieces before its body, and after it. -/
abbrev piece₀ (d : Dev nD) (c s : ℕ) : sProp 𝕄 :=
  iprop(xBlk (F := F) d (blk c s) (inpX m d) ∗ tBlk (F := F) d (blk c s) (inpT m d) ∗ ∃ f, oBlk (F := F) d (blk c s) f)
abbrev piece₁ (d : Dev nD) (c s : ℕ) : sProp 𝕄 :=
  iprop(xBlk (F := F) d (blk c s) (inpX m d) ∗ tBlk (F := F) d (blk c s) (inpT m d) ∗ oBlk (F := F) d (blk c s) (out m d))

/-- The call takes each SparseCore its sixteen tasks' blocks and each task its own, and brings them back with the
    output's blocks at the cleared words. -/
def P : (K (F := F)).Pay (nD := nD) (Val := Elt F) (Name := ℕ) (U := UU) where
  st := fun q d c => match q with | 0 => bigSep Finset.univ fun i : Fin 16 => piece₀ m d c.val i.val
  dn := fun q d c => match q with | 0 => bigSep Finset.univ fun i : Fin 16 => piece₁ m d c.val i.val
  go := fun q d c i => match q with | 0 => piece₀ m d c.val i.val
  td := fun q d c i => match q with | 0 => piece₁ m d c.val i.val
  x := fun _ _ => iprop(emp)

/-- Each piece can be handed over in a handshake. -/
instance P_storable : (P (F := F) m).IsStorable where
  st q d c := match q with
    | 0 => (inferInstance : BI.Storable (upEmb : UEmb _ 𝕄) (bigSep Finset.univ fun i : Fin 16 => piece₀ m d c.val i.val))
  dn q d c := match q with
    | 0 => (inferInstance : BI.Storable (upEmb : UEmb _ 𝕄) (bigSep Finset.univ fun i : Fin 16 => piece₁ m d c.val i.val))
  go q d c i := match q with
    | 0 => (inferInstance : BI.Storable (upEmb : UEmb _ 𝕄) (piece₀ m d c.val i.val))
  td q d c i := match q with
    | 0 => (inferInstance : BI.Storable (upEmb : UEmb _ 𝕄) (piece₁ m d c.val i.val))

/-! ## The tasks' obligation -/

/-- The grid's coordinates of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs for the call: the body at the subcore's coordinates. -/
theorem defs₀_vector (c : Fin τ.nSC) (s : Fin τ.nSub) :
    defs₀ (F := F) (.scVector c s) 0 ()
      = SparseCore.onTile hcore0 hsub0 (fun c s => cc0_body (coordsV c s)
          xV (Memref.isWhole_whole _) tV (Memref.isWhole_whole _) oV (Memref.isWhole_whole _) aV (Memref.isWhole_whole _) bV (Memref.isWhole_whole _)
          cc0_scoped0 cc0_scoped1 cc0_scoped2) ⟨⟩ c s := rfl

/-- Every task takes its pieces before to its pieces after. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF (inpX m d) (inpT m d) O W hO

/-! ## The blocks split and join -/

/-- The mask words are their thirty-two blocks. -/
theorem x_blocks (d : Dev nD) (f : S262144.Idx → BitVec 32) :
    xBlk (F := F) d Finset.univ f = bigSep Finset.univ fun c : Fin 2 => bigSep Finset.univ fun i : Fin 16 => xBlk (F := F) d (blk c.val i.val) f := by
  unfold xBlk
  rw [← half_cover, pointsTo_biUnion Finset.univ (ℓ := xLoc d) (fun c : Fin 2 => half c.val) half_disjoint]
  refine bigSep_congr fun c _ => ?_
  unfold half
  exact pointsTo_biUnion Finset.univ (ℓ := xLoc d) (fun s : Fin 16 => blk c.val s.val) (blk_disjoint c.val c.isLt)

/-- The track words are their thirty-two blocks. -/
theorem t_blocks (d : Dev nD) (f : S262144.Idx → BitVec 32) :
    tBlk (F := F) d Finset.univ f = bigSep Finset.univ fun c : Fin 2 => bigSep Finset.univ fun i : Fin 16 => tBlk (F := F) d (blk c.val i.val) f := by
  unfold tBlk
  rw [← half_cover, pointsTo_biUnion Finset.univ (ℓ := tLoc d) (fun c : Fin 2 => half c.val) half_disjoint]
  refine bigSep_congr fun c _ => ?_
  unfold half
  exact pointsTo_biUnion Finset.univ (ℓ := tLoc d) (fun s : Fin 16 => blk c.val s.val) (blk_disjoint c.val c.isLt)

/-- The output array is its thirty-two blocks. -/
theorem o_blocks (d : Dev nD) (f : S262144.Idx → BitVec 32) :
    oBlk (F := F) d Finset.univ f = bigSep Finset.univ fun c : Fin 2 => bigSep Finset.univ fun i : Fin 16 => oBlk (F := F) d (blk c.val i.val) f := by
  unfold oBlk
  rw [← half_cover, pointsTo_biUnion Finset.univ (ℓ := oLoc d) (fun c : Fin 2 => half c.val) half_disjoint]
  refine bigSep_congr fun c _ => ?_
  unfold half
  exact pointsTo_biUnion Finset.univ (ℓ := oLoc d) (fun s : Fin 16 => blk c.val s.val) (blk_disjoint c.val c.isLt)

/-- A SparseCore's pieces are its tasks' pieces, before and after. -/
theorem vecSplit : (K (F := F)).VecSplit' (P m) 0 := by
  intro d c
  show (bigSep Finset.univ fun i : Fin 16 => piece₀ m d c.val i.val) ⊢ |={Set.univ}=> iprop(
      (bigSep Finset.univ fun i : Fin 16 => piece₀ m d c.val i.val)
      ∗ ((bigSep Finset.univ fun i : Fin 16 => piece₁ m d c.val i.val) -∗ (bigSep Finset.univ fun i : Fin 16 => piece₁ m d c.val i.val)))
  iintro H; imodintro
  isplitl [H]; · iexact H
  iintro H; iexact H

/-- The three arrays whole give the call what it takes. -/
theorem st0_intro (d : Dev nD) (f : S262144.Idx → BitVec 32) :
    iprop(xBlk (F := F) d Finset.univ (inpX m d) ∗ tBlk (F := F) d Finset.univ (inpT m d) ∗ oBlk (F := F) d Finset.univ f)
      ⊢ bigSep Finset.univ fun c : Fin ((K (F := F)).nCore 0) => (P m).st 0 d c := by
  show _ ⊢ bigSep Finset.univ fun c : Fin 2 => bigSep Finset.univ fun i : Fin 16 => piece₀ m d c.val i.val
  rw [x_blocks, t_blocks, o_blocks, ← bigSep_sep', ← bigSep_sep']
  refine bigSep_mono fun c _ => ?_
  rw [← bigSep_sep', ← bigSep_sep']
  refine bigSep_mono fun i _ => ?_
  show iprop(xBlk (F := F) d (blk c.val i.val) (inpX m d) ∗ tBlk (F := F) d (blk c.val i.val) (inpT m d) ∗ oBlk (F := F) d (blk c.val i.val) f) ⊢ piece₀ m d c.val i.val
  iintro ⟨Hx, Ht, Ho⟩
  isplitl [Hx]; · iexact Hx
  isplitl [Ht]; · iexact Ht
  iexists f; iexact Ho

/-- What the call brings back is the three arrays whole, the output at the cleared words. -/
theorem dn0_elim (d : Dev nD) :
    (bigSep Finset.univ fun c : Fin ((K (F := F)).nCore 0) => (P m).dn 0 d c)
      ⊢ iprop(xBlk (F := F) d Finset.univ (inpX m d) ∗ tBlk (F := F) d Finset.univ (inpT m d) ∗ oBlk (F := F) d Finset.univ (out m d)) := by
  show (bigSep Finset.univ fun c : Fin 2 => bigSep Finset.univ fun i : Fin 16 => piece₁ m d c.val i.val) ⊢ _
  rw [x_blocks, t_blocks, o_blocks, ← bigSep_sep', ← bigSep_sep']
  refine bigSep_mono fun c _ => ?_
  rw [← bigSep_sep', ← bigSep_sep']
  exact fun _ h => h

/-! ## The launch's element -/

/-- The element that the launch starts from. -/
def u₀ : UU := (initOf (K (F := F)).hsCells (K (F := F)).hsToks, 1)

omit [FloatOps F] in
/-- Nothing, once per index, is nothing. -/
theorem bigSep_emp' {I : Type} (s : Finset I) : (bigSep s fun _ => iprop(emp)) = (iprop(emp) : sProp 𝕄) := bigSep_emp_const s

/-- The launch's element gives the handshakes' start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` on the TensorCore -/

/-- The call's three arrays. -/
abbrev callRefs : Finset (DevRef τ sig) :=
  {Proc.devRef (τ := τ) .tc main_v3, Proc.devRef (τ := τ) .tc main_v7, Proc.devRef (τ := τ) .tc main_v8}

/-- A buffer of the TensorCore that no scope allocates is among `@main`'s. -/
theorem ref_mem (b : Ref sig .tc) (h : (Proc.devRef (τ := τ) .tc b).isScoped = false) : Proc.devRef (τ := τ) .tc b ∈ Pipeline.ucRefs τ sig :=
  Finset.mem_filter.mpr ⟨StableHlo.devRef_mem_tcRefs b, by rw [h]; exact Bool.false_ne_true⟩

/-- The call's arrays are among `@main`'s buffers. -/
theorem callRefs_sub : callRefs ⊆ Pipeline.ucRefs τ sig :=
  Finset.insert_subset (ref_mem main_v3 rfl) (Finset.insert_subset (ref_mem main_v7 rfl) (Finset.singleton_subset_iff.mpr (ref_mem main_v8 rfl)))

/-- The call's three arrays, held at a valuation, are their three points-to's. -/
theorem held_callRefs (d : Dev nD) (W : Valuation τ sig (Elt F)) :
    (StableHlo.held (d.tc : Thread nD τ) callRefs W : sProp 𝕄)
      = iprop(xBlk (F := F) d Finset.univ (W (Proc.devRef .tc main_v3)) ∗ tBlk (F := F) d Finset.univ (W (Proc.devRef .tc main_v7))
          ∗ oBlk (F := F) d Finset.univ (W (Proc.devRef .tc main_v8))) := by
  unfold StableHlo.held callRefs
  rw [SparseCore.bigSep_insert' (by decide), SparseCore.bigSep_insert' (by decide), bigSep_singleton]

/-- Everything of `@main`'s, at the contents a run leaves. -/
abbrev FIN (d : Dev nD) : sProp 𝕄 := StableHlo.held (d.tc : Thread nD τ) (Pipeline.ucRefs τ sig) (Vfin m d)

/-- The call's arrays come out of what `@main` holds after the first line, -/
theorem split_pre (d : Dev nD) :
    (StableHlo.held (d.tc : Thread nD τ) (Pipeline.ucRefs τ sig) (StableHlo.after opsA fun b => m (d, b)) : sProp 𝕄)
      = iprop((xBlk (F := F) d Finset.univ (inpX m d) ∗ tBlk (F := F) d Finset.univ (inpT m d) ∗ oBlk (F := F) d Finset.univ (out₀ m d))
          ∗ StableHlo.held (d.tc : Thread nD τ) (Pipeline.ucRefs τ sig \ callRefs) (Vpre m d)) := by
  rw [StableHlo.held_sub_split _ callRefs_sub, held_callRefs]; rfl

/-- and go back in with the output at the cleared words. -/
theorem split_mid (d : Dev nD) :
    (StableHlo.held (d.tc : Thread nD τ) (Pipeline.ucRefs τ sig) (Vmid m d) : sProp 𝕄)
      = iprop((xBlk (F := F) d Finset.univ (inpX m d) ∗ tBlk (F := F) d Finset.univ (inpT m d) ∗ oBlk (F := F) d Finset.univ (out m d))
          ∗ StableHlo.held (d.tc : Thread nD τ) (Pipeline.ucRefs τ sig \ callRefs) (Vpre m d)) := by
  rw [StableHlo.held_sub_split _ callRefs_sub, held_callRefs]
  have h0 : Vmid m d (Proc.devRef (τ := τ) .tc main_v3) = inpX m d := Function.update_of_ne (by decide) _ _
  have h1 : Vmid m d (Proc.devRef (τ := τ) .tc main_v7) = inpT m d := Function.update_of_ne (by decide) _ _
  have h2 : Vmid m d (Proc.devRef (τ := τ) .tc main_v8) = out m d := Function.update_self ..
  rw [h0, h1, h2, StableHlo.held_congr (V := Vmid m d) (V' := Vpre m d) _ fun b hb => Function.update_of_ne (fun h => ?_) _ _]
  subst h
  exact (Finset.mem_sdiff.mp hb).2 (Finset.mem_insert_of_mem (Finset.mem_insert_of_mem (Finset.mem_singleton_self _)))

/-- The launch's buffers, as what `@main` holds. -/
theorem launch_held (d : Dev nD) :
    (unscopedBufs d (fun b => m ((SparseCore.T d).loc b)) : sProp 𝕄) = StableHlo.held (SparseCore.T d) (Pipeline.ucRefs τ sig) (fun b => m (d, b)) :=
  Pipeline.unscopedBufs_held (Ix := HIx 1) (Name := ℕ) (U := UU) (Lvl := ℕ) d (fun b => m (d, b))

set_option backward.isDefEq.respectTransparency.types false in
/-- `@main` on device `d`'s TensorCore: from the launch's buffers to `FIN`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hbufs, Hts, -⟩, -⟩
  iapply (StableHlo.wp_seq 𝒱 none Set.univ d (Pipeline.ucRefs τ sig) _ opsA opsA_sub opsA_fresh (fun b => m (d, b))) $$ [Hb Hbufs]
  · isplitl [Hb] <;> iassumption
  iintro ⟨Hb, Hbufs⟩
  ihave Hbufs := (Entails.of_eq (split_pre m d)) $$ Hbufs
  icases Hbufs with ⟨Hxo, Hrest⟩
  rw [wp_bind]
  iapply ((K (F := F)).wp_run (D (F := F)) 𝒱 (EH := EH) (P := P m) κ d 0) $$ [Hst Hxo Hb Hts Hrest]
  isplitr; · iexact Hctx
  isplitl [Hst]; · iexact Hst
  isplitl [Hxo]; · iapply (st0_intro m d (out₀ m d)); iexact Hxo
  iintro ⟨Hst, Hdn⟩
  ihave Hxo := (dn0_elim m d) $$ Hdn
  ihave Hbufs := (Entails.of_eq (split_mid m d).symm) $$ [Hxo Hrest]
  · isplitl [Hxo] <;> iassumption
  iapply (StableHlo.wp_seq 𝒱 none Set.univ d (Pipeline.ucRefs τ sig) _ opsB opsB_sub opsB_fresh (Vmid m d)) $$ [Hb Hbufs]
  · isplitl [Hb] <;> iassumption
  iintro ⟨Hb, Hbufs⟩
  rw [wp_pure]
  imodintro
  isplitl [Hst]; · iexact Hst
  isplitl [Hbufs]; · iexact Hbufs
  isplitl [Hb] <;> iassumption

/-! ## The run -/

/-- Every buffer of `@main`'s is at its final contents. -/
def fq (d : Dev nD) (s' : Phys nD τ sig (Elt F)) : Prop := ∀ b ∈ Pipeline.ucRefs τ sig, s'.mem.mem (d, b) = Vfin m d b

/-- One buffer of those held, read in the state. -/
theorem held_read (d : Dev nD) (s' : Phys nD τ sig (Elt F)) (b : DevRef τ sig) (hb : b ∈ Pipeline.ucRefs τ sig) :
    iprop(FIN m d ∗ SI s') ⊢ (⌜s'.mem.mem (d, b) = Vfin m d b⌝ : sProp 𝕄) := by
  have hx : FIN m d ⊢ (((d, b) : Loc nD τ sig) ↦{fullShare} Vfin m d b : sProp 𝕄) := bigSep_elim hb
  iintro ⟨H, HSI⟩
  ihave Hx := hx $$ H
  ihave H := (SI_pointsTo_agree (st := s') (ℓ := ((d, b) : Loc nD τ sig)) (I := Finset.univ) (q := fullShare) (f := Vfin m d b)) $$ [HSI Hx]
  · isplitl [HSI] <;> iassumption
  icases H with %h
  ipureintro; exact funext fun i => h i (Finset.mem_univ i)

/-- What `@main` holds at the end, read in the state. -/
theorem hfin (d : Dev nD) (s' : Phys nD τ sig (Elt F)) : iprop(FIN m d ∗ SI s') ⊢ (⌜fq m d s'⌝ : sProp 𝕄) :=
  fun x hx b hb => held_read m d s' b hb x hx

/-- Where a run ends: `@main`'s buffers at their final contents and every semaphore at zero. -/
def QC : PUnit × MemSt nD τ sig (Elt F) → Prop := fun r => (∀ c : Dev nD, ∀ b ∈ Pipeline.ucRefs τ sig, r.2.mem (c, b) = Vfin m c b) ∧ r.2.sem = fun _ => 0

/-- Every run of the program ends with `@main`'s buffers at `Vfin` and every semaphore at zero. -/
theorem run_main [∀ e, Nonempty (Elt F e)] : θ_run (Cert.WordsIdeal.defs (F := F)) (Cert.WordsIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The arguments and the results at the end -/

/-- The call's mask words are the mask's booleans, packed four to a word. -/
theorem inpX_eq (d : Dev nD) : inpX m d = Cert.Proof.Bytes.packed (n := 1000000) (k := 48576) (m := 1048576) (q := S262144x4) (w := S262144)
    (m (d, Proc.devRef .tc main_arg3) : IVec S1000000 1) (trunci 8 (constantI S_ 32 0#32) natLt_8_32) natLt_1_8 pads_S1000000_S1048576_0485760 h_S_
      shapeCasts_S1048576_S262144x4 splits_S262144_w32_S262144x4_w8 := by
  unfold inpX Vpre
  after_results
  rfl
/-- The call's track words are the track's booleans, packed four to a word. -/
theorem inpT_eq (d : Dev nD) : inpT m d = Cert.Proof.Bytes.packed (n := 1000000) (k := 48576) (m := 1048576) (q := S262144x4) (w := S262144)
    (m (d, Proc.devRef .tc main_arg4) : IVec S1000000 1) (trunci 8 (constantI S_ 32 0#32) natLt_8_32) natLt_1_8 pads_S1000000_S1048576_0485760 h_S_
      shapeCasts_S1048576_S262144x4 splits_S262144_w32_S262144x4_w8 := by
  unfold inpT Vpre
  after_results
  rfl

/-- Argument 0 is unchanged. -/
theorem Vfin_arg0 (d : Dev nD) : Vfin m d (Proc.devRef (τ := τ) .tc main_arg0) = m (d, Proc.devRef .tc main_arg0) := by
  unfold Vfin Vmid Vpre; after_results_simp; rfl
/-- Argument 1 is unchanged. -/
theorem Vfin_arg1 (d : Dev nD) : Vfin m d (Proc.devRef (τ := τ) .tc main_arg1) = m (d, Proc.devRef .tc main_arg1) := by
  unfold Vfin Vmid Vpre; after_results_simp; rfl
/-- Argument 2 is unchanged. -/
theorem Vfin_arg2 (d : Dev nD) : Vfin m d (Proc.devRef (τ := τ) .tc main_arg2) = m (d, Proc.devRef .tc main_arg2) := by
  unfold Vfin Vmid Vpre; after_results_simp; rfl
/-- Argument 3 is unchanged. -/
theorem Vfin_arg3 (d : Dev nD) : Vfin m d (Proc.devRef (τ := τ) .tc main_arg3) = m (d, Proc.devRef .tc main_arg3) := by
  unfold Vfin Vmid Vpre; after_results_simp; rfl
/-- Argument 4 is unchanged. -/
theorem Vfin_arg4 (d : Dev nD) : Vfin m d (Proc.devRef (τ := τ) .tc main_arg4) = m (d, Proc.devRef .tc main_arg4) := by
  unfold Vfin Vmid Vpre; after_results_simp; rfl

/-- The fourth result: the mask with the tracked elements cleared. -/
theorem Vfin_out (d : Dev nD) : Vfin m d (Proc.devRef (τ := τ) .tc main_v14)
    = (select (m (d, Proc.devRef .tc main_arg4) : IVec S1000000 1) (fun _ => 0#1) (m (d, Proc.devRef .tc main_arg3) : IVec S1000000 1) : IVec S1000000 1) := by
  unfold Vfin
  after_results_simp
  rw [show Vmid m d (Proc.devRef (τ := τ) .tc main_v8) = clear (inpX m d) (inpT m d) from Function.update_self .., inpX_eq, inpT_eq]
  exact Cert.Proof.Bytes.unpack_clear (n := 1000000) (k := 48576) (m := 1048576) (q := S262144x4) (w := S262144) _ _ _ _ _ (fun _ => rfl) natLt_1_8
    pads_S1000000_S1048576_0485760 h_S_ shapeCasts_S1048576_S262144x4 shapeCasts_S262144x4_S1048576 splits_S262144_w32_S262144x4_w8 slices_S1048576_S1000000_0

end Launch

end Cert.WordsIdeal.Tile

end
-- ==== Proof.WordsClaims.lean ====
/-
  What the certificate claims of the simplest version, `Cert.Words`: its frame, the frame of `Cert.WordsIdeal`, and
  that `Cert.WordsIdeal` computes the reference's four results. All three are the two programs' runs (`WordsRun`,
  `WordsRunIdeal`), read at the arguments and the results.
-/
module

public import proofs.«01_k».proof.Proof.WordsRun
public import proofs.«01_k».proof.Proof.WordsRunIdeal
public import proofs.«01_k».proof.Proof.Reference

@[expose] public section

noncomputable section

namespace Cert.Proof

open Idealize.ShloMosaic Idealize.SL.Sem

/-- Every run of `Cert.Words` keeps the arguments and ends with every semaphore at zero. -/
theorem words_frame : Cert.quiescent_Words := fun m ρ _ =>
  (θ_run Cert.Words.defs _ _).mono
    (fun _ h => ⟨fun c => ⟨(h.1 c _ (Cert.Words.Tile.ref_mem Cert.Words.main_arg0 rfl)).trans (Cert.Words.Tile.Vfin_arg0 m c),
      (h.1 c _ (Cert.Words.Tile.ref_mem Cert.Words.main_arg1 rfl)).trans (Cert.Words.Tile.Vfin_arg1 m c),
      (h.1 c _ (Cert.Words.Tile.ref_mem Cert.Words.main_arg2 rfl)).trans (Cert.Words.Tile.Vfin_arg2 m c),
      (h.1 c _ (Cert.Words.Tile.ref_mem Cert.Words.main_arg3 rfl)).trans (Cert.Words.Tile.Vfin_arg3 m c),
      (h.1 c _ (Cert.Words.Tile.ref_mem Cert.Words.main_arg4 rfl)).trans (Cert.Words.Tile.Vfin_arg4 m c)⟩, h.2⟩)
    (Cert.Words.Tile.run_main (F := Bits) m ρ)

/-- Every run of `Cert.WordsIdeal` keeps the arguments and ends with every semaphore at zero. -/
theorem words_ideal_frame : Cert.quiescent_WordsIdeal := fun m ρ _ =>
  (θ_run Cert.WordsIdeal.defs _ _).mono
    (fun _ h => ⟨fun c => ⟨(h.1 c _ (Cert.WordsIdeal.Tile.ref_mem Cert.WordsIdeal.main_arg0 rfl)).trans (Cert.WordsIdeal.Tile.Vfin_arg0 m c),
      (h.1 c _ (Cert.WordsIdeal.Tile.ref_mem Cert.WordsIdeal.main_arg1 rfl)).trans (Cert.WordsIdeal.Tile.Vfin_arg1 m c),
      (h.1 c _ (Cert.WordsIdeal.Tile.ref_mem Cert.WordsIdeal.main_arg2 rfl)).trans (Cert.WordsIdeal.Tile.Vfin_arg2 m c),
      (h.1 c _ (Cert.WordsIdeal.Tile.ref_mem Cert.WordsIdeal.main_arg3 rfl)).trans (Cert.WordsIdeal.Tile.Vfin_arg3 m c),
      (h.1 c _ (Cert.WordsIdeal.Tile.ref_mem Cert.WordsIdeal.main_arg4 rfl)).trans (Cert.WordsIdeal.Tile.Vfin_arg4 m c)⟩, h.2⟩)
    (Cert.WordsIdeal.Tile.run_main (F := Ideal) m ρ)

/-- `Cert.WordsIdeal` and the reference, from equal arguments, end with equal results: the first three arguments
    and the cleared mask. -/
theorem words_algebraic : Cert.algebraic_WordsIdeal_ReferenceIdeal := by
  intro m g m' g' _ hargs
  refine ⟨fun c => m ((c.tc : Thread Cert.WordsIdeal.nD Cert.WordsIdeal.τ).loc Cert.WordsIdeal.main_arg0),
    fun c => m ((c.tc : Thread Cert.WordsIdeal.nD Cert.WordsIdeal.τ).loc Cert.WordsIdeal.main_arg1),
    fun c => m ((c.tc : Thread Cert.WordsIdeal.nD Cert.WordsIdeal.τ).loc Cert.WordsIdeal.main_arg2),
    fun c => cleared (s := Cert.WordsIdeal.S1000000) (m ((c.tc : Thread Cert.WordsIdeal.nD Cert.WordsIdeal.τ).loc Cert.WordsIdeal.main_arg3))
      (m ((c.tc : Thread Cert.WordsIdeal.nD Cert.WordsIdeal.τ).loc Cert.WordsIdeal.main_arg4)), ?_, ?_⟩
  · refine (θ_run Cert.WordsIdeal.defs _ _).mono (fun _ h c => ?_) (Cert.WordsIdeal.Tile.run_main (F := Ideal) m g)
    have h0 := (h.1 c _ (Cert.WordsIdeal.Tile.ref_mem Cert.WordsIdeal.main_arg0 rfl)).trans (Cert.WordsIdeal.Tile.Vfin_arg0 m c)
    have h1 := (h.1 c _ (Cert.WordsIdeal.Tile.ref_mem Cert.WordsIdeal.main_arg1 rfl)).trans (Cert.WordsIdeal.Tile.Vfin_arg1 m c)
    have h2 := (h.1 c _ (Cert.WordsIdeal.Tile.ref_mem Cert.WordsIdeal.main_arg2 rfl)).trans (Cert.WordsIdeal.Tile.Vfin_arg2 m c)
    exact ⟨h0, h1, h2,
      (h.1 c _ (Cert.WordsIdeal.Tile.ref_mem Cert.WordsIdeal.main_v14 rfl)).trans (Cert.WordsIdeal.Tile.Vfin_out m c), h0, h1, h2,
      (h.1 c _ (Cert.WordsIdeal.Tile.ref_mem Cert.WordsIdeal.main_arg3 rfl)).trans (Cert.WordsIdeal.Tile.Vfin_arg3 m c),
      (h.1 c _ (Cert.WordsIdeal.Tile.ref_mem Cert.WordsIdeal.main_arg4 rfl)).trans (Cert.WordsIdeal.Tile.Vfin_arg4 m c)⟩
  · refine (θ_run Cert.ReferenceIdeal.defs _ _).mono (fun _ h c => ?_) (reference_run m' g')
    obtain ⟨a0, a1, a2, a3, a4⟩ := hargs c
    obtain ⟨hv, h0, h1, h2, h3, h4⟩ := h c
    exact ⟨h0.trans a0, h1.trans a1, h2.trans a2, hv.trans (congrArg₂ (cleared (s := Cert.WordsIdeal.S1000000)) a3 a4), h0, h1, h2, h3, h4⟩

end Cert.Proof

end
-- ==== Proof.lean ====
/-
  The certificate of `Cert.Claim`: for each of the two versions proved, the fastest (`Cert.Kernel`) and the simplest
  (`Cert.Words`), the frame of the version, the frame of its idealized print, that the idealized print is the version's
  own, and that it computes the reference's four results; and the reference's frame.
-/
module

public import proofs.«01_k».proof.Defs
public import proofs.«01_k».proof.Proof.ProbeClaims
public import proofs.«01_k».proof.Proof.WordsClaims

@[expose] public section

noncomputable section

namespace Cert.Proof

/-- Every claim of the certificate. -/
theorem claim : Cert.Claim := ⟨Cert.Kernel.Gen.facts, Cert.KernelIdeal.Gen.facts, Cert.Words.Gen.facts, Cert.WordsIdeal.Gen.facts,
  Cert.ReferenceIdeal.Gen.facts, probe_frame, probe_ideal_frame, words_frame, words_ideal_frame, reference_frame,
  trivial, probe_algebraic, trivial, words_algebraic⟩

end Cert.Proof

end
